-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v32) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S1024x512 : Shape := ⟨2, ![1024, 512]⟩
abbrev S512x16 : Shape := ⟨2, ![512, 16]⟩
abbrev S1024x2 : Shape := ⟨2, ![1024, 2]⟩
abbrev S4x512x1024 : Shape := ⟨3, ![4, 512, 1024]⟩
abbrev S_ : Shape := ⟨0, ![]⟩
abbrev S1024x512x1 : Shape := ⟨3, ![1024, 512, 1]⟩
abbrev S1x512x16 : Shape := ⟨3, ![1, 512, 16]⟩
abbrev S1024x512x16 : Shape := ⟨3, ![1024, 512, 16]⟩
abbrev S1024x1 : Shape := ⟨2, ![1024, 1]⟩
abbrev S1024x1x1 : Shape := ⟨3, ![1024, 1, 1]⟩

class Facts : Prop where
  bcast_S_S1024x512 : S_.BroadcastsInDim S1024x512 (![] : Fin 0 → Fin S1024x512.rank)
  bcast_S_S512x16 : S_.BroadcastsInDim S512x16 (![] : Fin 0 → Fin S512x16.rank)
  bcast_S_S1024x2 : S_.BroadcastsInDim S1024x2 (![] : Fin 0 → Fin S1024x2.rank)
  bcast_S1024x512_S1024x512x1_0_1 : S1024x512.BroadcastsInDim S1024x512x1 (![0, 1] : Fin 2 → Fin S1024x512x1.rank)
  bcast_S512x16_S1x512x16_1_2 : S512x16.BroadcastsInDim S1x512x16 (![1, 2] : Fin 2 → Fin S1x512x16.rank)
  bcast_S1024x512x1_S1024x512x16_0_1_2 : S1024x512x1.BroadcastsInDim S1024x512x16 (![0, 1, 2] : Fin 3 → Fin S1024x512x16.rank)
  bcast_S1x512x16_S1024x512x16_0_1_2 : S1x512x16.BroadcastsInDim S1024x512x16 (![0, 1, 2] : Fin 3 → Fin S1024x512x16.rank)
  slices_S1024x2_S1024x1_0_0 : S1024x2.Slices ![0, 0] S1024x1
  bcast_S1024x1_S1024x1x1_0_1 : S1024x1.BroadcastsInDim S1024x1x1 (![0, 1] : Fin 2 → Fin S1024x1x1.rank)
  bcast_S1024x1x1_S1024x512x16_0_1_2 : S1024x1x1.BroadcastsInDim S1024x512x16 (![0, 1, 2] : Fin 3 → Fin S1024x512x16.rank)
  slices_S1024x2_S1024x1_0_1 : S1024x2.Slices ![0, 1] S1024x1

variable [Facts]

def fn_part1 {F : FTy → Type} [FloatOps F] (main_v10 : IVec S1024x2 1) (main_v19 : IVec S1024x512x16 1) : IVec S1024x512x16 1 :=
  let main_v20 : IVec S1024x1 1 := (extractStridedSlice S1024x1 ![0, 1] · slices_S1024x2_S1024x1_0_1) main_v10
  let main_v21 : IVec S1024x1x1 1 := broadcastInDim S1024x1x1 ![0, 1] bcast_S1024x1_S1024x1x1_0_1 main_v20
  let main_v22 : IVec S1024x512x16 1 := broadcastInDim S1024x512x16 ![0, 1, 2] bcast_S1024x1x1_S1024x512x16_0_1_2 main_v21
  let main_v23 : IVec S1024x512x16 1 := andi main_v19 main_v22
  main_v23

def fn {F : FTy → Type} [FloatOps F] (main_arg0 : FVec F S1024x512 .f32) (main_arg1 : FVec F S512x16 .f32) (main_arg2 : IVec S1024x2 32) (main_arg3 : FVec F S4x512x1024 .f32) : IVec S1024x512x16 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_v3 : FVec F S512x16 .f32 := Host.absf main_arg1
  let main_cst_0 : FVec F S_ .f32 := constant S_ .f32 0x7F800000#32
  let main_v4 : FVec F S512x16 .f32 := broadcastInDim S512x16 ![] bcast_S_S512x16 main_cst_0
  let main_v5 : IVec S512x16 1 := cmpf .olt main_v3 main_v4
  let main_c : IVec S_ 32 := constantI S_ 32 0#32
  let main_v6 : IVec S1024x2 32 := broadcastInDim S1024x2 ![] bcast_S_S1024x2 main_c
  let main_v7 : IVec S1024x2 1 := cmpi .sge main_arg2 main_v6
  let main_c_1 : IVec S_ 32 := constantI S_ 32 16#32
  let main_v8 : IVec S1024x2 32 := broadcastInDim S1024x2 ![] bcast_S_S1024x2 main_c_1
  let main_v9 : IVec S1024x2 1 := cmpi .slt main_arg2 main_v8
  let main_v10 : IVec S1024x2 1 := andi main_v7 main_v9
  let main_v11 : IVec S1024x512x1 1 := broadcastInDim S1024x512x1 ![0, 1] bcast_S1024x512_S1024x512x1_0_1 main_v2
  let main_v12 : IVec S1x512x16 1 := broadcastInDim S1x512x16 ![1, 2] bcast_S512x16_S1x512x16_1_2 main_v5
  let main_v13 : IVec S1024x512x16 1 := broadcastInDim S1024x512x16 ![0, 1, 2] bcast_S1024x512x1_S1024x512x16_0_1_2 main_v11
  let main_v14 : IVec S1024x512x16 1 := broadcastInDim S1024x512x16 ![0, 1, 2] bcast_S1x512x16_S1024x512x16_0_1_2 main_v12
  let main_v15 : IVec S1024x512x16 1 := andi main_v13 main_v14
  let main_v16 : IVec S1024x1 1 := (extractStridedSlice S1024x1 ![0, 0] · slices_S1024x2_S1024x1_0_0) main_v10
  let main_v17 : IVec S1024x1x1 1 := broadcastInDim S1024x1x1 ![0, 1] bcast_S1024x1_S1024x1x1_0_1 main_v16
  let main_v18 : IVec S1024x512x16 1 := broadcastInDim S1024x512x16 ![0, 1, 2] bcast_S1024x1x1_S1024x512x16_0_1_2 main_v17
  let main_v19 : IVec S1024x512x16 1 := andi main_v15 main_v18
  fn_part1 (F := F) main_v10 main_v19
-- ==== Pre_routed_ReferenceIdeal.lean ====
abbrev S1024x512 : Shape := ⟨2, ![1024, 512]⟩
abbrev S512x16 : Shape := ⟨2, ![512, 16]⟩
abbrev S1024x2 : Shape := ⟨2, ![1024, 2]⟩
abbrev S16x512x1024 : Shape := ⟨3, ![16, 512, 1024]⟩
abbrev S_ : Shape := ⟨0, ![]⟩
abbrev S1024x512x1 : Shape := ⟨3, ![1024, 512, 1]⟩
abbrev S1x512x16 : Shape := ⟨3, ![1, 512, 16]⟩
abbrev S1024x512x16 : Shape := ⟨3, ![1024, 512, 16]⟩
abbrev S1024x1 : Shape := ⟨2, ![1024, 1]⟩
abbrev S1024x1x1 : Shape := ⟨3, ![1024, 1, 1]⟩

class Facts : Prop where
  bcast_S_S1024x512 : S_.BroadcastsInDim S1024x512 (![] : Fin 0 → Fin S1024x512.rank)
  bcast_S_S512x16 : S_.BroadcastsInDim S512x16 (![] : Fin 0 → Fin S512x16.rank)
  bcast_S_S1024x2 : S_.BroadcastsInDim S1024x2 (![] : Fin 0 → Fin S1024x2.rank)
  bcast_S1024x512_S1024x512x1_0_1 : S1024x512.BroadcastsInDim S1024x512x1 (![0, 1] : Fin 2 → Fin S1024x512x1.rank)
  bcast_S512x16_S1x512x16_1_2 : S512x16.BroadcastsInDim S1x512x16 (![1, 2] : Fin 2 → Fin S1x512x16.rank)
  bcast_S1024x512x1_S1024x512x16_0_1_2 : S1024x512x1.BroadcastsInDim S1024x512x16 (![0, 1, 2] : Fin 3 → Fin S1024x512x16.rank)
  bcast_S1x512x16_S1024x512x16_0_1_2 : S1x512x16.BroadcastsInDim S1024x512x16 (![0, 1, 2] : Fin 3 → Fin S1024x512x16.rank)
  slices_S1024x2_S1024x1_0_0 : S1024x2.Slices ![0, 0] S1024x1
  bcast_S1024x1_S1024x1x1_0_1 : S1024x1.BroadcastsInDim S1024x1x1 (![0, 1] : Fin 2 → Fin S1024x1x1.rank)
  bcast_S1024x1x1_S1024x512x16_0_1_2 : S1024x1x1.BroadcastsInDim S1024x512x16 (![0, 1, 2] : Fin 3 → Fin S1024x512x16.rank)
  slices_S1024x2_S1024x1_0_1 : S1024x2.Slices ![0, 1] S1024x1

variable [Facts]

def fn_part1 {F : FTy → Type} [FloatOps F] (main_v10 : IVec S1024x2 1) (main_v19 : IVec S1024x512x16 1) : IVec S1024x512x16 1 :=
  let main_v20 : IVec S1024x1 1 := (extractStridedSlice S1024x1 ![0, 1] · slices_S1024x2_S1024x1_0_1) main_v10
  let main_v21 : IVec S1024x1x1 1 := broadcastInDim S1024x1x1 ![0, 1] bcast_S1024x1_S1024x1x1_0_1 main_v20
  let main_v22 : IVec S1024x512x16 1 := broadcastInDim S1024x512x16 ![0, 1, 2] bcast_S1024x1x1_S1024x512x16_0_1_2 main_v21
  let main_v23 : IVec S1024x512x16 1 := andi main_v19 main_v22
  main_v23

def fn {F : FTy → Type} [FloatOps F] (main_arg0 : FVec F S1024x512 .f32) (main_arg1 : FVec F S512x16 .f32) (main_arg2 : IVec S1024x2 32) (main_arg3 : FVec F S16x512x1024 .f32) : IVec S1024x512x16 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_v3 : FVec F S512x16 .f32 := Host.absf main_arg1
  let main_cst_0 : FVec F S_ .f32 := constant S_ .f32 0x7F800000#32
  let main_v4 : FVec F S512x16 .f32 := broadcastInDim S512x16 ![] bcast_S_S512x16 main_cst_0
  let main_v5 : IVec S512x16 1 := cmpf .olt main_v3 main_v4
  let main_c : IVec S_ 32 := constantI S_ 32 0#32
  let main_v6 : IVec S1024x2 32 := broadcastInDim S1024x2 ![] bcast_S_S1024x2 main_c
  let main_v7 : IVec S1024x2 1 := cmpi .sge main_arg2 main_v6
  let main_c_1 : IVec S_ 32 := constantI S_ 32 16#32
  let main_v8 : IVec S1024x2 32 := broadcastInDim S1024x2 ![] bcast_S_S1024x2 main_c_1
  let main_v9 : IVec S1024x2 1 := cmpi .slt main_arg2 main_v8
  let main_v10 : IVec S1024x2 1 := andi main_v7 main_v9
  let main_v11 : IVec S1024x512x1 1 := broadcastInDim S1024x512x1 ![0, 1] bcast_S1024x512_S1024x512x1_0_1 main_v2
  let main_v12 : IVec S1x512x16 1 := broadcastInDim S1x512x16 ![1, 2] bcast_S512x16_S1x512x16_1_2 main_v5
  let main_v13 : IVec S1024x512x16 1 := broadcastInDim S1024x512x16 ![0, 1, 2] bcast_S1024x512x1_S1024x512x16_0_1_2 main_v11
  let main_v14 : IVec S1024x512x16 1 := broadcastInDim S1024x512x16 ![0, 1, 2] bcast_S1x512x16_S1024x512x16_0_1_2 main_v12
  let main_v15 : IVec S1024x512x16 1 := andi main_v13 main_v14
  let main_v16 : IVec S1024x1 1 := (extractStridedSlice S1024x1 ![0, 0] · slices_S1024x2_S1024x1_0_0) main_v10
  let main_v17 : IVec S1024x1x1 1 := broadcastInDim S1024x1x1 ![0, 1] bcast_S1024x1_S1024x1x1_0_1 main_v16
  let main_v18 : IVec S1024x512x16 1 := broadcastInDim S1024x512x16 ![0, 1, 2] bcast_S1024x1x1_S1024x512x16_0_1_2 main_v17
  let main_v19 : IVec S1024x512x16 1 := andi main_v15 main_v18
  fn_part1 (F := F) main_v10 main_v19
-- ==== Kernel.lean ====
abbrev S1024x512 : Shape := ⟨2, ![1024, 512]⟩
abbrev S512x16 : Shape := ⟨2, ![512, 16]⟩
abbrev S1024x2 : Shape := ⟨2, ![1024, 2]⟩
abbrev S4x512x1024 : Shape := ⟨3, ![4, 512, 1024]⟩
abbrev S1024x1024 : Shape := ⟨2, ![1024, 1024]⟩
abbrev S1024x4 : Shape := ⟨2, ![1024, 4]⟩
abbrev S2x3x256x512 : Shape := ⟨4, ![2, 3, 256, 512]⟩
abbrev S2x256x512 : Shape := ⟨3, ![2, 256, 512]⟩
abbrev S2x2x256x512 : Shape := ⟨4, ![2, 2, 256, 512]⟩
abbrev S2x3 : Shape := ⟨2, ![2, 3]⟩
abbrev S2x2 : Shape := ⟨2, ![2, 2]⟩
abbrev S2 : Shape := ⟨1, ![2]⟩
abbrev S_ : Shape := ⟨0, ![]⟩
abbrev S256x512 : Shape := ⟨2, ![256, 512]⟩
abbrev S256x16 : Shape := ⟨2, ![256, 16]⟩
abbrev S256 : Shape := ⟨1, ![256]⟩
abbrev S256x1 : Shape := ⟨2, ![256, 1]⟩
abbrev S256x2 : Shape := ⟨2, ![256, 2]⟩
abbrev S2048x1024 : Shape := ⟨2, ![2048, 1024]⟩
abbrev S2048x512 : Shape := ⟨2, ![2048, 512]⟩
abbrev S256x4 : Shape := ⟨2, ![256, 4]⟩
abbrev S256x2048 : Shape := ⟨2, ![256, 2048]⟩
abbrev S1x1x256x512 : Shape := ⟨4, ![1, 1, 256, 512]⟩
abbrev S1x1 : Shape := ⟨2, ![1, 1]⟩
abbrev S1x256x512 : Shape := ⟨3, ![1, 256, 512]⟩
abbrev S1 : Shape := ⟨1, ![1]⟩

abbrev nBuf : Space → Nat
  | .hbm => 5
  | .vmem => 11
  | .smem => 0
  | _ => 0

abbrev bufTy : (tb : Table) → Fin (tcTables nBuf tb) → BufTy
  | .hbm, ⟨0, _⟩ => ⟨S1024x512, .f32⟩
  | .hbm, ⟨1, _⟩ => ⟨S512x16, .f32⟩
  | .hbm, ⟨2, _⟩ => ⟨S1024x2, .i32⟩
  | .hbm, ⟨3, _⟩ => ⟨S4x512x1024, .f32⟩
  | .hbm, ⟨4, _⟩ => ⟨S1024x1024, .bf16⟩
  | .local _ .vmem, ⟨0, _⟩ => ⟨S1024x512, .f32⟩
  | .local _ .vmem, ⟨1, _⟩ => ⟨S512x16, .f32⟩
  | .local _ .vmem, ⟨2, _⟩ => ⟨S1024x2, .i32⟩
  | .local _ .vmem, ⟨3, _⟩ => ⟨S4x512x1024, .f32⟩
  | .local _ .vmem, ⟨4, _⟩ => ⟨S1024x1024, .bf16⟩
  | .local _ .vmem, ⟨5, _⟩ => ⟨S1024x4, .f32⟩
  | .local _ .vmem, ⟨6, _⟩ => ⟨S2x3x256x512, .bf16⟩
  | .local _ .vmem, ⟨7, _⟩ => ⟨S2x3x256x512, .bf16⟩
  | .local _ .vmem, ⟨8, _⟩ => ⟨S2x256x512, .bf16⟩
  | .local _ .vmem, ⟨9, _⟩ => ⟨S2x2x256x512, .bf16⟩
  | .local _ .vmem, ⟨10, _⟩ => ⟨S2x256x512, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v13 : BitVec 32 := Scalar.muli v2 c256_i32
  let v14 : Index := Scalar.indexCast v13
  let c0 : Index := 0#32
  ![v14.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v13 : BitVec 32 := Scalar.muli v2 c256_i32
  let v29 : Index := Scalar.indexCast v13
  let c0_14 : Index := 0#32
  ![v29.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v13 : BitVec 32 := Scalar.muli v2 c256_i32
  let v65 : Index := Scalar.indexCast v13
  let c0_24 : Index := 0#32
  ![v65.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v13 : BitVec 32 := Scalar.muli v2 c256_i32
  let v84 : Index := Scalar.indexCast v13
  let c1 : Index := 1#32
  ![v84.toNat, 1]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v13 : BitVec 32 := Scalar.muli v2 c256_i32
  let v103 : Index := Scalar.indexCast v13
  let c2 : Index := 2#32
  ![v103.toNat, 2]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v13 : BitVec 32 := Scalar.muli v2 c256_i32
  let v122 : Index := Scalar.indexCast v13
  let c3 : Index := 3#32
  ![v122.toNat, 3]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_41 : BitVec 32 := 256#32
  let v137 : BitVec 32 := Scalar.muli v2 c256_i32_41
  let v138 : Index := Scalar.indexCast v137
  let c0_42 : Index := 0#32
  ![v138.toNat, 0]
def k0_dev3 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_56 : BitVec 32 := 1#32
  let v162 : BitVec 32 := Scalar.muli v7 c1_i32_56
  let v163 : BitVec 32 := Scalar.addi c0_i32_57 v162
  v163.toNat
def k0_dev4 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_75 : BitVec 32 := 1#32
  let v177 : BitVec 32 := Scalar.muli v5 c1_i32_75
  let v178 : BitVec 32 := Scalar.addi c0_i32_76 v177
  v178.toNat
def k0_off8 (d0 : Dev nD) (c1_i32_81 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v187 : BitVec 32 := Scalar.addi v2 c1_i32_81
  let c4_i32_82 : BitVec 32 := 4#32
  let v188 : BitVec 32 := Scalar.remsi v187 c4_i32_82
  let c256_i32_83 : BitVec 32 := 256#32
  let v189 : BitVec 32 := Scalar.muli v188 c256_i32_83
  let v190 : Index := Scalar.indexCast v189
  let c0_84 : Index := 0#32
  ![v190.toNat, 0]
def k0_off9 (d0 : Dev nD) (c1_i32_81 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v187 : BitVec 32 := Scalar.addi v2 c1_i32_81
  let c4_i32_82 : BitVec 32 := 4#32
  let v188 : BitVec 32 := Scalar.remsi v187 c4_i32_82
  let c256_i32_83 : BitVec 32 := 256#32
  let v189 : BitVec 32 := Scalar.muli v188 c256_i32_83
  let v205 : Index := Scalar.indexCast v189
  let c0_90 : Index := 0#32
  ![v205.toNat, 0]
def k0_off10 (d0 : Dev nD) (c1_i32_81 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v187 : BitVec 32 := Scalar.addi v2 c1_i32_81
  let c4_i32_82 : BitVec 32 := 4#32
  let v188 : BitVec 32 := Scalar.remsi v187 c4_i32_82
  let c256_i32_83 : BitVec 32 := 256#32
  let v189 : BitVec 32 := Scalar.muli v188 c256_i32_83
  let v241 : Index := Scalar.indexCast v189
  let c0_100 : Index := 0#32
  ![v241.toNat, 0]
def k0_off11 (d0 : Dev nD) (c1_i32_81 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v187 : BitVec 32 := Scalar.addi v2 c1_i32_81
  let c4_i32_82 : BitVec 32 := 4#32
  let v188 : BitVec 32 := Scalar.remsi v187 c4_i32_82
  let c256_i32_83 : BitVec 32 := 256#32
  let v189 : BitVec 32 := Scalar.muli v188 c256_i32_83
  let v260 : Index := Scalar.indexCast v189
  let c1_105 : Index := 1#32
  ![v260.toNat, 1]
def k0_off12 (d0 : Dev nD) (c1_i32_81 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v187 : BitVec 32 := Scalar.addi v2 c1_i32_81
  let c4_i32_82 : BitVec 32 := 4#32
  let v188 : BitVec 32 := Scalar.remsi v187 c4_i32_82
  let c256_i32_83 : BitVec 32 := 256#32
  let v189 : BitVec 32 := Scalar.muli v188 c256_i32_83
  let v279 : Index := Scalar.indexCast v189
  let c2_110 : Index := 2#32
  ![v279.toNat, 2]
def k0_off13 (d0 : Dev nD) (c1_i32_81 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v187 : BitVec 32 := Scalar.addi v2 c1_i32_81
  let c4_i32_82 : BitVec 32 := 4#32
  let v188 : BitVec 32 := Scalar.remsi v187 c4_i32_82
  let c256_i32_83 : BitVec 32 := 256#32
  let v189 : BitVec 32 := Scalar.muli v188 c256_i32_83
  let v298 : Index := Scalar.indexCast v189
  let c3_115 : Index := 3#32
  ![v298.toNat, 3]
def k0_off14 (d0 : Dev nD) (c3_i32_186 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v532 : BitVec 32 := Scalar.addi v2 c3_i32_186
  let c4_i32_187 : BitVec 32 := 4#32
  let v533 : BitVec 32 := Scalar.remsi v532 c4_i32_187
  let c256_i32_190 : BitVec 32 := 256#32
  let v538 : BitVec 32 := Scalar.muli v533 c256_i32_190
  let v539 : Index := Scalar.indexCast v538
  let c0_191 : Index := 0#32
  ![v539.toNat, 0]
def k0_dev5 (d0 : Dev nD) : Nat :=
  let c0_i32_231 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_230 : BitVec 32 := 1#32
  let v602 : BitVec 32 := Scalar.muli v7 c1_i32_230
  let v603 : BitVec 32 := Scalar.addi c0_i32_231 v602
  v603.toNat
def k0_dev6 (d0 : Dev nD) : Nat :=
  let c0_i32_267 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_266 : BitVec 32 := 1#32
  let v628 : BitVec 32 := Scalar.muli v5 c1_i32_266
  let v629 : BitVec 32 := Scalar.addi c0_i32_267 v628
  v629.toNat
def k0_dev7 (d0 : Dev nD) : Nat :=
  let c0_i32_317 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_316 : BitVec 32 := 1#32
  let v708 : BitVec 32 := Scalar.muli v7 c1_i32_316
  let v709 : BitVec 32 := Scalar.addi c0_i32_317 v708
  v709.toNat
def k0_dev8 (d0 : Dev nD) : Nat :=
  let c0_i32_353 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_352 : BitVec 32 := 1#32
  let v734 : BitVec 32 := Scalar.muli v5 c1_i32_352
  let v735 : BitVec 32 := Scalar.addi c0_i32_353 v734
  v735.toNat
def k0_dev9 (d0 : Dev nD) : Nat :=
  let c0_i32_401 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_400 : BitVec 32 := 1#32
  let v814 : BitVec 32 := Scalar.muli v7 c1_i32_400
  let v815 : BitVec 32 := Scalar.addi c0_i32_401 v814
  v815.toNat
def k0_dev10 (d0 : Dev nD) : Nat :=
  let c0_i32_414 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_413 : BitVec 32 := 1#32
  let v824 : BitVec 32 := Scalar.muli v5 c1_i32_413
  let v825 : BitVec 32 := Scalar.addi c0_i32_414 v824
  v825.toNat
def k0_off15 (d0 : Dev nD) (c1_i32_419 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v835 : BitVec 32 := Scalar.addi v2 c1_i32_419
  let c4_i32_420 : BitVec 32 := 4#32
  let v836 : BitVec 32 := Scalar.remsi v835 c4_i32_420
  let c256_i32_421 : BitVec 32 := 256#32
  let v837 : BitVec 32 := Scalar.muli v836 c256_i32_421
  let v838 : Index := Scalar.indexCast v837
  let c0_422 : Index := 0#32
  ![v838.toNat, 0]
def k0_dev11 (d0 : Dev nD) : Nat :=
  let c0_i32_452 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_451 : BitVec 32 := 1#32
  let v856 : BitVec 32 := Scalar.muli v7 c1_i32_451
  let v857 : BitVec 32 := Scalar.addi c0_i32_452 v856
  v857.toNat
def k0_dev12 (d0 : Dev nD) : Nat :=
  let c0_i32_465 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_464 : BitVec 32 := 1#32
  let v866 : BitVec 32 := Scalar.muli v5 c1_i32_464
  let v867 : BitVec 32 := Scalar.addi c0_i32_465 v866
  v867.toNat
def k0_off16 (d0 : Dev nD) (c3_i32_470 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v877 : BitVec 32 := Scalar.addi v2 c3_i32_470
  let c4_i32_471 : BitVec 32 := 4#32
  let v878 : BitVec 32 := Scalar.remsi v877 c4_i32_471
  let c256_i32_472 : BitVec 32 := 256#32
  let v879 : BitVec 32 := Scalar.muli v878 c256_i32_472
  let v880 : Index := Scalar.indexCast v879
  let c512 : Index := 512#32
  ![v880.toNat, 512]
def k0_dev13 (d0 : Dev nD) : Nat :=
  let c0_i32_492 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_491 : BitVec 32 := 1#32
  let v890 : BitVec 32 := Scalar.muli v7 c1_i32_491
  let v891 : BitVec 32 := Scalar.addi c0_i32_492 v890
  v891.toNat
def k0_dev14 (d0 : Dev nD) : Nat :=
  let c0_i32_516 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_515 : BitVec 32 := 1#32
  let v908 : BitVec 32 := Scalar.muli v5 c1_i32_515
  let v909 : BitVec 32 := Scalar.addi c0_i32_516 v908
  v909.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x512 : Shape := ⟨2, ![1024, 512]⟩
abbrev S512x16 : Shape := ⟨2, ![512, 16]⟩
abbrev S1024x2 : Shape := ⟨2, ![1024, 2]⟩
abbrev S16x512x1024 : Shape := ⟨3, ![16, 512, 1024]⟩
abbrev S1024x16 : Shape := ⟨2, ![1024, 16]⟩
abbrev S_ : Shape := ⟨0, ![]⟩
abbrev S1024 : Shape := ⟨1, ![1024]⟩
abbrev S1024x1 : Shape := ⟨2, ![1024, 1]⟩
abbrev S1024x2x1 : Shape := ⟨3, ![1024, 2, 1]⟩
abbrev S1024x16x1024 : Shape := ⟨3, ![1024, 16, 1024]⟩
abbrev S1024x1x1 : Shape := ⟨3, ![1024, 1, 1]⟩
abbrev S1024x1x1024 : Shape := ⟨3, ![1024, 1, 1024]⟩
abbrev S1024x1024 : Shape := ⟨2, ![1024, 1024]⟩

abbrev nBuf : Space → Nat
  | .hbm => 61
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x16, .f32⟩
  | .hbm, ⟨2, _⟩ => ⟨S1024x2, .i32⟩
  | .hbm, ⟨3, _⟩ => ⟨S16x512x1024, .f32⟩
  | .hbm, ⟨4, _⟩ => ⟨S1024x16, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x16, .f32⟩
  | .hbm, ⟨9, _⟩ => ⟨S1024x16, .f32⟩
  | .hbm, ⟨10, _⟩ => ⟨S1024x16, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S1024x16, .f32⟩
  | .hbm, ⟨15, _⟩ => ⟨S1024x16, .f32⟩
  | .hbm, ⟨16, _⟩ => ⟨S_, .i32⟩
  | .hbm, ⟨17, _⟩ => ⟨S1024x2, .i32⟩
  | .hbm, ⟨18, _⟩ => ⟨S1024x2, .i1⟩
  | .hbm, ⟨19, _⟩ => ⟨S_, .i32⟩
  | .hbm, ⟨20, _⟩ => ⟨S1024x2, .i32⟩
  | .hbm, ⟨21, _⟩ => ⟨S1024x2, .i32⟩
  | .hbm, ⟨22, _⟩ => ⟨S1024x2, .i32⟩
  | .hbm, ⟨23, _⟩ => ⟨S1024x2x1, .i32⟩
  | .hbm, ⟨24, _⟩ => ⟨S1024x2, .f32⟩
  | .hbm, ⟨25, _⟩ => ⟨S1024x1, .f32⟩
  | .hbm, ⟨26, _⟩ => ⟨S1024x1, .f32⟩
  | .hbm, ⟨27, _⟩ => ⟨S1024x1, .f32⟩
  | .hbm, ⟨28, _⟩ => ⟨S1024x16x1024, .f32⟩
  | .hbm, ⟨29, _⟩ => ⟨S1024x1, .i32⟩
  | .hbm, ⟨30, _⟩ => ⟨S1024x1x1, .i32⟩
  | .hbm, ⟨31, _⟩ => ⟨S_, .i32⟩
  | .hbm, ⟨32, _⟩ => ⟨S1024x1x1, .i32⟩
  | .hbm, ⟨33, _⟩ => ⟨S1024x1x1, .i1⟩
  | .hbm, ⟨34, _⟩ => ⟨S_, .i32⟩
  | .hbm, ⟨35, _⟩ => ⟨S1024x1x1, .i32⟩
  | .hbm, ⟨36, _⟩ => ⟨S1024x1x1, .i32⟩
  | .hbm, ⟨37, _⟩ => ⟨S1024x1x1, .i32⟩
  | .hbm, ⟨38, _⟩ => ⟨S1024x1x1024, .f32⟩
  | .hbm, ⟨39, _⟩ => ⟨S1024x1024, .f32⟩
  | .hbm, ⟨40, _⟩ => ⟨S1024x1, .i32⟩
  | .hbm, ⟨41, _⟩ => ⟨S1024x1x1, .i32⟩
  | .hbm, ⟨42, _⟩ => ⟨S_, .i32⟩
  | .hbm, ⟨43, _⟩ => ⟨S1024x1x1, .i32⟩
  | .hbm, ⟨44, _⟩ => ⟨S1024x1x1, .i1⟩
  | .hbm, ⟨45, _⟩ => ⟨S_, .i32⟩
  | .hbm, ⟨46, _⟩ => ⟨S1024x1x1, .i32⟩
  | .hbm, ⟨47, _⟩ => ⟨S1024x1x1, .i32⟩
  | .hbm, ⟨48, _⟩ => ⟨S1024x1x1, .i32⟩
  | .hbm, ⟨49, _⟩ => ⟨S1024x1x1024, .f32⟩
  | .hbm, ⟨50, _⟩ => ⟨S1024x1024, .f32⟩
  | .hbm, ⟨51, _⟩ => ⟨S1024x1, .f32⟩
  | .hbm, ⟨52, _⟩ => ⟨S1024x1, .f32⟩
  | .hbm, ⟨53, _⟩ => ⟨S1024x1024, .f32⟩
  | .hbm, ⟨54, _⟩ => ⟨S1024x1024, .f32⟩
  | .hbm, ⟨55, _⟩ => ⟨S1024x1, .f32⟩
  | .hbm, ⟨56, _⟩ => ⟨S1024x1, .f32⟩
  | .hbm, ⟨57, _⟩ => ⟨S1024x1024, .f32⟩
  | .hbm, ⟨58, _⟩ => ⟨S1024x1024, .f32⟩
  | .hbm, ⟨59, _⟩ => ⟨S1024x1024, .f32⟩
  | .hbm, ⟨60, _⟩ => ⟨S1024x1024, .bf16⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩

abbrev nD : Nat := 1
abbrev τ : Topo := Topo.v7x

variable {F : FTy → Type} [FloatOps F]
-- ==== Proof.Mesh.lean ====
/-
The mesh and the transfers of the kernel: four devices in a ring, twelve remote copies per device.

Every copy moves one 256 × 512 block of `bf16`. Copies with an even number go to the right neighbour, those with an
odd number to the left one, and they are numbered in the order in which a device starts them. Copies 0–5 are the
reduce-scatter (three steps, two directions), 6–9 pass a device's two finished blocks to both neighbours, 10 and 11
pass what a neighbour sent on to the device opposite.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds library's algebra: one cell per semaphore, duties named by a truth value. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

set_option backward.proofsInPublic true in
/-- The right neighbour. -/
def rgt (c : Dev nD) : Dev nD := ⟨(c.val + 1) % 4, Nat.mod_lt _ (by decide)⟩
set_option backward.proofsInPublic true in
/-- The left neighbour. -/
def lft (c : Dev nD) : Dev nD := ⟨(c.val + 3) % 4, Nat.mod_lt _ (by decide)⟩
theorem lft_rgt (c : Dev nD) : lft (rgt c) = c := by revert c; decide
theorem rgt_lft (c : Dev nD) : rgt (lft c) = c := by revert c; decide

/-- Where copy `t` of device `c` goes, and which device's copy `t` arrives at `c`. -/
def peer (t : Fin 12) (c : Dev nD) : Dev nD := if t.val % 2 = 0 then rgt c else lft c
def orig (t : Fin 12) (c : Dev nD) : Dev nD := if t.val % 2 = 0 then lft c else rgt c
theorem orig_peer (t : Fin 12) (c : Dev nD) : orig t (peer t c) = c := by unfold orig peer; split <;> simp only [lft_rgt, rgt_lft]
theorem peer_orig (t : Fin 12) (c : Dev nD) : peer t (orig t c) = c := by unfold orig peer; split <;> simp only [lft_rgt, rgt_lft]

/-- Stepping along copy `t`, as a permutation of the mesh. -/
def step (t : Fin 12) : Dev nD ≃ Dev nD := ⟨peer t, orig t, orig_peer t, peer_orig t⟩

/-! ## The copied blocks -/

theorem inb23 (r : Fin 2) (s : Fin 3) : ∀ a, (![r.val, s.val, 0, 0] : Fin 4 → ℕ) a + S1x1x256x512.size a ≤ S2x3x256x512.size a := by
  revert r s; decide
theorem inb22 (r s : Fin 2) : ∀ a, (![r.val, s.val, 0, 0] : Fin 4 → ℕ) a + S1x1x256x512.size a ≤ S2x2x256x512.size a := by
  revert r s; decide
theorem inb2 (r : Fin 2) : ∀ a, (![r.val, 0, 0] : Fin 3 → ℕ) a + S1x256x512.size a ≤ S2x256x512.size a := by
  revert r; decide

/-- Block `(r, s)` of the reduce-scatter's sending buffer (`r` the direction, `s` the step), and of its receiving one. -/
def blkS (r : Fin 2) (s : Fin 3) : Memref sig .tc .vmem S256x512 .bf16 :=
  ((Memref.whole cc0_scratch1).slice (Rect.unit (s := S2x3x256x512) ![r.val, s.val, 0, 0] S1x1x256x512.size (inb23 r s)) (fun _ => rfl)).squeeze S256x512 squeezes_S1x1x256x512_S256x512
def blkR (r : Fin 2) (s : Fin 3) : Memref sig .tc .vmem S256x512 .bf16 :=
  ((Memref.whole cc0_scratch2).slice (Rect.unit (s := S2x3x256x512) ![r.val, s.val, 0, 0] S1x1x256x512.size (inb23 r s)) (fun _ => rfl)).squeeze S256x512 squeezes_S1x1x256x512_S256x512
/-- The device's finished block of direction `r`. -/
def blkO (r : Fin 2) : Memref sig .tc .vmem S256x512 .bf16 :=
  ((Memref.whole cc0_scratch3).slice (Rect.unit (s := S2x256x512) ![r.val, 0, 0] S1x256x512.size (inb2 r)) (fun _ => rfl)).squeeze S256x512 squeezes_S1x256x512_S256x512
/-- The finished block of direction `r` of the left (`s = 0`) or right (`s = 1`) neighbour. -/
def blkA (r s : Fin 2) : Memref sig .tc .vmem S256x512 .bf16 :=
  ((Memref.whole cc0_scratch4).slice (Rect.unit (s := S2x2x256x512) ![r.val, s.val, 0, 0] S1x1x256x512.size (inb22 r s)) (fun _ => rfl)).squeeze S256x512 squeezes_S1x1x256x512_S256x512
/-- The finished block of direction `r` of the device opposite. -/
def blkB (r : Fin 2) : Memref sig .tc .vmem S256x512 .bf16 :=
  ((Memref.whole cc0_scratch5).slice (Rect.unit (s := S2x256x512) ![r.val, 0, 0] S1x256x512.size (inb2 r)) (fun _ => rfl)).squeeze S256x512 squeezes_S1x256x512_S256x512

/-- What copy `t` reads, on the device that starts it. -/
def srcM : Fin 12 → Memref sig .tc .vmem S256x512 .bf16
  | 0 => blkS 0 0 | 1 => blkS 1 0 | 2 => blkS 0 1 | 3 => blkS 1 1 | 4 => blkS 0 2 | 5 => blkS 1 2
  | 6 => blkO 0 | 7 => blkO 0 | 8 => blkO 1 | 9 => blkO 1 | 10 => blkA 0 0 | 11 => blkA 1 1
/-- What copy `t` writes, on the device where it arrives. -/
def dstM : Fin 12 → Memref sig .tc .vmem S256x512 .bf16
  | 0 => blkR 0 0 | 1 => blkR 1 0 | 2 => blkR 0 1 | 3 => blkR 1 1 | 4 => blkR 0 2 | 5 => blkR 1 2
  | 6 => blkA 0 0 | 7 => blkA 0 1 | 8 => blkA 1 0 | 9 => blkA 1 1 | 10 => blkB 0 | 11 => blkB 1
/-- The share of its source a copy borrows: copies 6 and 7 read one block at once, so do 8 and 9; the sources of 10 and
    11 are read by the device itself while they are under way. -/
def shr : Fin 12 → PosShare TreeShare
  | 6 => fullShare.left | 7 => fullShare.right | 8 => fullShare.left | 9 => fullShare.right
  | 10 => fullShare.left | 11 => fullShare.left | _ => fullShare

/-! ## The semaphores and their cells -/

/-- The barrier semaphore. -/
abbrev barS : Sem sig := (SemArray.scalar (sig.barrier 0 rfl) : Sems sig S_).sem
/-- The semaphore copy `t` counts up on the device that starts it, and on the one where it arrives. -/
def sendQ : Fin 12 → DmaSem sig
  | 0 => ⟨5, by decide⟩ | 1 => ⟨8, by decide⟩ | 2 => ⟨6, by decide⟩ | 3 => ⟨9, by decide⟩ | 4 => ⟨7, by decide⟩ | 5 => ⟨10, by decide⟩
  | 6 => ⟨17, by decide⟩ | 7 => ⟨18, by decide⟩ | 8 => ⟨19, by decide⟩ | 9 => ⟨20, by decide⟩ | 10 => ⟨25, by decide⟩ | 11 => ⟨26, by decide⟩
def recvQ : Fin 12 → DmaSem sig
  | 0 => ⟨11, by decide⟩ | 1 => ⟨14, by decide⟩ | 2 => ⟨12, by decide⟩ | 3 => ⟨15, by decide⟩ | 4 => ⟨13, by decide⟩ | 5 => ⟨16, by decide⟩
  | 6 => ⟨21, by decide⟩ | 7 => ⟨22, by decide⟩ | 8 => ⟨23, by decide⟩ | 9 => ⟨24, by decide⟩ | 10 => ⟨27, by decide⟩ | 11 => ⟨28, by decide⟩

/-- A device's own copy semaphores, numbered: sending (`false`) or receiving (`true`), and which copy. -/
abbrev OwnKey : Type := Bool × Fin 12
def copyQ (k : OwnKey) : DmaSem sig := if k.1 then recvQ k.2 else sendQ k.2
abbrev osem (k : OwnKey) : SemLoc sig := .dma (copyQ k)
theorem copyQ_inj : Function.Injective copyQ := by decide
/-- Which copy a semaphore belongs to, if any. -/
def whichCopy (q : DmaSem sig) : Option OwnKey := (Finset.univ.filter fun k => copyQ k = q).toList.head?
theorem whichCopy_copyQ (k : OwnKey) : whichCopy (copyQ k) = some k := by
  unfold whichCopy
  rw [show (Finset.univ.filter fun k' => copyQ k' = copyQ k) = {k} from Finset.ext fun k' => by
    rw [Finset.mem_filter, Finset.mem_singleton]; exact ⟨fun h => copyQ_inj h.2, fun h => ⟨Finset.mem_univ _, by rw [h]⟩⟩, Finset.toList_singleton]
  rfl

abbrev barCell (c : Dev nD) : GSem nD τ sig := ((c : Thread nD τ), .reg barS)
abbrev ownCell (k : OwnKey) (c : Dev nD) : GSem nD τ sig := ((c : Thread nD τ), .dma (copyQ k))
abbrev sendCell (t : Fin 12) (c : Dev nD) : GSem nD τ sig := ownCell (false, t) c
abbrev recvCell (t : Fin 12) (c : Dev nD) : GSem nD τ sig := ownCell (true, t) c

/-- The count one block adds to a semaphore. -/
abbrev blkN : ℕ := (blkB 0).view.dmaCredit
theorem blkN_pos : 0 < blkN := View.dmaCredit_pos _ (by decide)
theorem dst_amount (t : Fin 12) (q : DmaSem sig) : (dstM t).view.amount (.dma q) = blkN := by fin_cases t <;> rfl

end Cert.Ring
-- ==== Proof.Sched.lean ====
/-
The protocol: who signals whom, how much, and what a signal carries.

* Barrier. A device signals both neighbours once and waits for two. With the signal to the LEFT neighbour it hands over
  its landing blocks of the even copies (which that neighbour will write, sending to its right), with the signal to
  the RIGHT one those of the odd copies.
* Copy `t`. The sending device's semaphore returns the borrowed share of the source block, still holding what was
  sent; the receiving device's semaphore brings the landing block, holding what the sender's copy `t` carries.

What copy `t` of device `c` carries is a parameter `val t c` here; the run of the kernel fixes it.
-/
module

public import proofs.«01_k».proof.Proof.Mesh

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Contents of one copied block. -/
abbrev Blk (F : FTy → Type) : Type := S256x512.Idx → Elt F .bf16

/-- A share of a block of device `c`, through which `w` is read. -/
def holds (M : Memref sig .tc .vmem S256x512 .bf16) (q : PosShare TreeShare) (c : Dev nD) (w : Blk F) : sProp 𝕄 :=
  iprop(∃ f : Buf (Elt F) (M.view.loc (c : Thread nD τ)), ⌜M.view.read (Elt F) f = w⌝ ∗ (M.view.loc (c : Thread nD τ) ↦[M.view.set]{q} f))

omit [FloatOps F] in
instance holds_storable (M) (q) (c : Dev nD) (w : Blk F) : BI.Storable (upEmb : UEmb _ 𝕄) (holds M q c w) := by unfold holds; infer_instance

/-- A block of device `c`, whatever it contains. -/
def free (M : Memref sig .tc .vmem S256x512 .bf16) (c : Dev nD) : sProp 𝕄 := iprop(∃ w : Blk F, holds M fullShare c w)

omit [FloatOps F] in
instance free_storable (M) (c : Dev nD) : BI.Storable (upEmb : UEmb _ 𝕄) (free (F := F) M c) := by unfold free; infer_instance

/-- The landing blocks of the even and of the odd copies. -/
def landEven (c : Dev nD) : sProp 𝕄 :=
  iprop(free (dstM 0) c ∗ free (dstM 2) c ∗ free (dstM 4) c ∗ free (dstM 6) c ∗ free (dstM 8) c ∗ free (dstM 10) c)
def landOdd (c : Dev nD) : sProp 𝕄 :=
  iprop(free (dstM 1) c ∗ free (dstM 3) c ∗ free (dstM 5) c ∗ free (dstM 7) c ∗ free (dstM 9) c ∗ free (dstM 11) c)

omit [FloatOps F] in
instance landEven_storable (c : Dev nD) : BI.Storable (upEmb : UEmb _ 𝕄) (landEven (F := F) c) := by unfold landEven; infer_instance
omit [FloatOps F] in
instance landOdd_storable (c : Dev nD) : BI.Storable (upEmb : UEmb _ 𝕄) (landOdd (F := F) c) := by unfold landOdd; infer_instance

/-- What device `c` receives with the barrier signal of its right (`true`) or left (`false`) neighbour. -/
def barPay (c : Dev nD) (d : Bool) : sProp 𝕄 := if d then landEven (rgt c) else landOdd (lft c)

variable (val : Fin 12 → Dev nD → Blk F)

/-- What device `c` receives with its own semaphore `k`. -/
def copyPay (k : OwnKey) (c : Dev nD) : sProp 𝕄 :=
  if k.1 then holds (dstM k.2) fullShare c (val k.2 (orig k.2 c)) else holds (srcM k.2) (shr k.2) c (val k.2 c)

omit [FloatOps F] in
instance barPay_storable (c : Dev nD) (d : Bool) : BI.Storable (upEmb : UEmb _ 𝕄) (barPay (F := F) c d) := by
  unfold barPay; split <;> infer_instance
omit [FloatOps F] in
instance copyPay_storable (k : OwnKey) (c : Dev nD) : BI.Storable (upEmb : UEmb _ 𝕄) (copyPay val k c) := by
  unfold copyPay; split <;> infer_instance

def payOf (c : Dev nD) (s : SemLoc sig) (d : Bool) : sProp 𝕄 := match s with
  | .reg _ => barPay c d
  | .dma q => match whichCopy q with
    | some k => copyPay val k c
    | none => iprop(emp)

def dutiesOf (s : SemLoc sig) : Finset Bool := match s with
  | .reg b => if b = barS then Finset.univ else ∅
  | .dma q => if (whichCopy q).isSome then {false} else ∅

/-- The schedule: one round; two duties on the barrier cell, one on every copy cell. -/
def sched : Rounds.Schedule (GSem nD τ sig) Bool 𝕄 where
  duties g r := if r = 0 ∧ g.1.2 = .tc then dutiesOf g.2 else ∅
  unitless _ := False
  amount g _ _ := match g.2 with | .reg _ => 1 | .dma _ => blkN
  payload g _ d := payOf val g.1.1 g.2 d
  amount_pos g _ _ _ := by
    split
    · exact Nat.one_pos
    · exact blkN_pos

instance sched_storable (g : GSem nD τ sig) (r : ℕ) (d : Bool) :
    BI.Storable (upEmb : UEmb _ 𝕄) ((sched (F := F) val).payload g r d) := by
  show BI.Storable upEmb (payOf val g.1.1 g.2 d)
  unfold payOf
  (repeat' split) <;> infer_instance

section Tables
variable (c : Dev nD) (k : OwnKey)

omit [FloatOps F] in
theorem duties_bar : (sched (F := F) val).duties (barCell c) 0 = Finset.univ := by
  dsimp only [sched]; rw [if_pos ⟨rfl, rfl⟩]; unfold dutiesOf; exact if_pos rfl
omit [FloatOps F] in
theorem duties_own : (sched (F := F) val).duties (ownCell k c) 0 = {false} := by
  dsimp only [sched]; rw [if_pos ⟨rfl, rfl⟩]; dsimp only [dutiesOf]; rw [whichCopy_copyQ]; rfl
omit [FloatOps F] in
theorem duties_after (g : GSem nD τ sig) : ∀ r, 1 ≤ r → (sched (F := F) val).duties g r = ∅ :=
  fun r hr => by dsimp only [sched]; rw [if_neg fun h => by omega]
omit [FloatOps F] in
theorem amount_bar (d : Bool) : (sched (F := F) val).amount (barCell c) 0 d = 1 := rfl
omit [FloatOps F] in
theorem amount_own (d : Bool) : (sched (F := F) val).amount (ownCell k c) 0 d = blkN := rfl
omit [FloatOps F] in
theorem expect_bar : (sched (F := F) val).expect (barCell c) 0 = 2 := by
  unfold Schedule.expect Schedule.amountOf
  rw [duties_bar, Finset.sum_congr rfl fun d _ => amount_bar val c d, Finset.sum_const, Finset.card_univ, Fintype.card_bool, smul_eq_mul]
omit [FloatOps F] in
theorem expect_own : (sched (F := F) val).expect (ownCell k c) 0 = blkN := by
  unfold Schedule.expect Schedule.amountOf; rw [duties_own, Finset.sum_singleton, amount_own]
omit [FloatOps F] in
theorem payload_bar (d : Bool) : (sched (F := F) val).payload (barCell c) 0 d = barPay c d := rfl
omit [FloatOps F] in
theorem payload_own (d : Bool) : (sched (F := F) val).payload (ownCell k c) 0 d = copyPay val k c := by
  dsimp only [sched, payOf]; rw [whichCopy_copyQ]
omit [FloatOps F] in
theorem payload_send (t : Fin 12) (d : Bool) : (sched (F := F) val).payload (sendCell t c) 0 d = holds (srcM t) (shr t) c (val t c) :=
  payload_own val c (false, t) d
omit [FloatOps F] in
theorem payload_recv (t : Fin 12) (d : Bool) : (sched (F := F) val).payload (recvCell t c) 0 d = holds (dstM t) fullShare c (val t (orig t c)) :=
  payload_own val c (true, t) d
omit [FloatOps F] in
theorem rest_bar : bigSep ((sched (F := F) val).duties (barCell c) 0 \ ∅) (fun d => (sched (F := F) val).payload (barCell c) 0 d)
    = iprop(landOdd (lft c) ∗ landEven (rgt c)) := by
  rw [Finset.sdiff_empty, duties_bar, bigSep_univ_eq_bigSepL [false, true] (by decide) (by decide), bigSepL_cons_cons, bigSepL_singleton]
  rfl
omit [FloatOps F] in
theorem rest_own : bigSep ((sched (F := F) val).duties (ownCell k c) 0 \ ∅) (fun d => (sched (F := F) val).payload (ownCell k c) 0 d)
    = copyPay val k c := by
  rw [Finset.sdiff_empty, duties_own, bigSep_singleton, payload_own]

end Tables

/-! ## What a device owes; the levels that order the waits -/

/-- The credits device `c` still owes its neighbours' receive cells when copies before number `k` have started. -/
def owe (c : Dev nD) (k : ℕ) : CellTallies nD τ sig Unit :=
  ∑ t : Fin 12, if k ≤ t.val then tallyAt (recvCell t (peer t c)) () blkN else 0
/-- What it owes before the second barrier signal, and at launch. -/
def owe₁ (c : Dev nD) : CellTallies nD τ sig Unit := owe c 0 + tallyAt (barCell (rgt c)) () 1
def owe₀ (c : Dev nD) : CellTallies nD τ sig Unit := owe₁ c + tallyAt (barCell (lft c)) () 1

theorem owe_start (c : Dev nD) (t : Fin 12) : owe c t.val = owe c (t.val + 1) + tallyAt (recvCell t (peer t c)) () blkN := by
  unfold owe
  rw [← Finset.sum_ite_eq' Finset.univ t (fun t' => tallyAt (recvCell t' (peer t' c)) () blkN) |>.trans (if_pos (Finset.mem_univ _)),
    ← Finset.sum_add_distrib]
  refine Finset.sum_congr rfl fun t' _ => ?_
  rcases Nat.lt_trichotomy t.val t'.val with h | h | h
  · rw [if_pos h.le, if_pos (show t.val + 1 ≤ t'.val from h), if_neg (fun e => by subst e; exact Nat.lt_irrefl _ h), add_zero]
  · rw [if_pos h.le, if_neg (by omega), if_pos (Fin.ext h.symm), zero_add]
  · rw [if_neg (by omega), if_neg (by omega), if_neg (fun e => by subst e; exact Nat.lt_irrefl _ h), add_zero]
theorem owe_end (c : Dev nD) : owe c 12 = 0 := Finset.sum_eq_zero fun t _ => if_neg (by omega)

theorem owe_pos {c : Dev nD} {k : ℕ} {g : GSem nD τ sig} {u : Unit} (h : 0 < owe c k g u) : ∃ t : Fin 12, k ≤ t.val ∧ g = recvCell t (peer t c) := by
  by_contra hn
  refine absurd h (Nat.not_lt.mpr (Nat.le_of_eq ?_))
  unfold owe
  rw [Finset.sum_apply, Finsupp.finset_sum_apply]
  refine Finset.sum_eq_zero fun t _ => ?_
  split
  · next hk => rw [tallyAt_apply, if_neg fun e => hn ⟨t, hk, e.1⟩]
  · rfl
theorem owe₀_pos {c : Dev nD} {g : GSem nD τ sig} {u : Unit} (h : 0 < owe₀ c g u) :
    (∃ t : Fin 12, g = recvCell t (peer t c)) ∨ ∃ d, g = barCell d := by
  have hs : owe₀ c g u = owe c 0 g u + (if g = barCell (rgt c) ∧ u = () then 1 else 0) + (if g = barCell (lft c) ∧ u = () then 1 else 0) := by
    unfold owe₀ owe₁
    rw [Pi.add_apply, Finsupp.add_apply, Pi.add_apply, Finsupp.add_apply, tallyAt_apply, tallyAt_apply]
  by_cases h1 : g = barCell (rgt c)
  · exact .inr ⟨_, h1⟩
  by_cases h2 : g = barCell (lft c)
  · exact .inr ⟨_, h2⟩
  rw [hs, if_neg (fun e => h1 e.1), if_neg (fun e => h2 e.1)] at h
  obtain ⟨t, -, e⟩ := owe_pos (k := 0) (by simpa only [Nat.add_zero] using h)
  exact .inl ⟨t, e⟩

def L (g : GSem nD τ sig) : Finset Unit := if g.1.2 = .tc then {()} else ∅
/-- The barrier cell has level 1, the receive cell of copy `t` level `t + 2`, every other cell level 0: a device that waits
    owes only cells of a higher level. -/
def lv (g : GSem nD τ sig) (_ : Unit) : ℕ := match g.2 with
  | .reg _ => 1
  | .dma q => match whichCopy q with
    | some (true, t) => t.val + 2
    | _ => 0
theorem L_of_ne (g : GSem nD τ sig) (h : g.1.2 ≠ .tc) : L g = ∅ := if_neg h
theorem L_tc (c : Dev nD) (sm : SemLoc sig) : L ((c : Thread nD τ), sm) = {()} := if_pos rfl
theorem lv_recv (t : Fin 12) (c : Dev nD) (u : Unit) : lv (recvCell t c) u = t.val + 2 := by
  dsimp only [lv]; rw [whichCopy_copyQ]

omit [FloatOps F] in
theorem mayWait_bar (c : Dev nD) : (levAts L lv : sProp 𝕄) ⊢ MayWait (c : Thread nD τ) (.reg barS) () (owe c 0) :=
  MayOwe.of_cut (L := L) (lev := lv) 1 (fun p hp => by rw [Finset.mem_singleton.mp hp, L_tc]; exact Finset.mem_singleton_self _)
    (fun g u hg => by obtain ⟨t, -, rfl⟩ := owe_pos hg; exact Finset.mem_singleton_self _)
    (fun p hp => by rw [Finset.mem_singleton.mp hp]; exact le_rfl)
    (fun g u hg => by obtain ⟨t, -, rfl⟩ := owe_pos hg; rw [lv_recv]; omega)

omit [FloatOps F] in
theorem mayWait_recv (c : Dev nD) (t : Fin 12) (k : ℕ) (h : t.val < k) :
    (levAts L lv : sProp 𝕄) ⊢ MayWait (c : Thread nD τ) (.dma (copyQ (true, t))) () (owe c k) :=
  MayOwe.of_cut (L := L) (lev := lv) (t.val + 2) (fun p hp => by rw [Finset.mem_singleton.mp hp, L_tc]; exact Finset.mem_singleton_self _)
    (fun g u hg => by obtain ⟨t, -, rfl⟩ := owe_pos hg; exact Finset.mem_singleton_self _)
    (fun p hp => by rw [Finset.mem_singleton.mp hp]; exact (lv_recv t c ()).le)
    (fun g u hg => by obtain ⟨t', ht', rfl⟩ := owe_pos hg; rw [lv_recv]; omega)

omit [FloatOps F] in
theorem mayWait_other (c : Dev nD) (q : DmaSem sig) (hq : whichCopy q = none) (O : CellTallies nD τ sig Unit) (hO : O = owe₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owe₀_pos hg with ⟨t, rfl⟩ | ⟨d, rfl⟩ <;> exact Finset.mem_singleton_self _)
      (fun p hp => by rw [Finset.mem_singleton.mp hp]; dsimp only [lv]; rw [hq])
      (fun g u hg => by
        rcases owe₀_pos hg with ⟨t, rfl⟩ | ⟨d, rfl⟩
        · rw [lv_recv]; omega
        · exact Nat.one_pos)
  · rw [MayWait_zero]; iintro -; iempintro

end Cert.Ring
-- ==== Proof.Rules.lean ====
/-
One rule per kind of step the kernel takes: starting a copy, waiting on a copy's semaphore, reading or writing a
block, reading a whole buffer's rectangle, filling a buffer rectangle by rectangle.
-/
module

public import proofs.«01_k».proof.Proof.Sched
public import Idealize.ShloMosaic.Lib.ViewIndex

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- A program of device `c`, run to `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A device's cells: the barrier's (`none`) and its copy semaphores'. -/
abbrev CellKey : Type := Dev nD × Option OwnKey
def cellAt (k : CellKey) : GSem nD τ sig := match k.2 with
  | none => barCell k.1
  | some o => ownCell o k.1

variable (val : Fin 12 → Dev nD → Blk F)

/-- The standing records: every cell's invariant (at the name `K` gives it), and that each has begun its round. -/
def records (K : CellKey → ℕ) : sProp 𝕄 :=
  iprop((bigSep Finset.univ fun k : CellKey => cellInv ER (sched val) (K k) (cellAt k))
    ∗ (bigSep Finset.univ fun k : CellKey => reached ER (cellAt k) 0))

instance records_persistent (K : CellKey → ℕ) : BI.Persistent (records val K) := by unfold records; infer_instance

variable (K : CellKey → ℕ)

theorem inv_of (k : CellKey) : records val K ⊢ cellInv ER (sched val) (K k) (cellAt k) := by
  unfold records; iintro ⟨H, -⟩
  iapply (show (bigSep Finset.univ fun k : CellKey => cellInv ER (sched val) (K k) (cellAt k)) ⊢ cellInv ER (sched val) (K k) (cellAt k) from
    bigSep_elim (Finset.mem_univ k)); iexact H
theorem reached_of (k : CellKey) : records val K ⊢ reached ER (cellAt k) 0 := by
  unfold records; iintro ⟨-, H⟩
  iapply (show (bigSep Finset.univ fun k : CellKey => (reached ER (cellAt k) 0 : sProp 𝕄)) ⊢ reached ER (cellAt k) 0 from
    bigSep_elim (Finset.mem_univ k)); iexact H
theorem inv_own (o : OwnKey) (c : Dev nD) : records val K ⊢ cellInv ER (sched val) (K (c, some o)) (ownCell o c) := inv_of val K (c, some o)
theorem reached_own (o : OwnKey) (c : Dev nD) : records val K ⊢ reached ER (ownCell o c) 0 := reached_of val K (c, some o)
theorem inv_bar (c : Dev nD) : records val K ⊢ cellInv ER (sched val) (K (c, none)) (barCell c) := inv_of val K (c, none)
theorem reached_bar (c : Dev nD) : records val K ⊢ reached ER (barCell c) 0 := reached_of val K (c, none)

/-- What device `c` owes, its past waits left open. -/
def debt (c : Dev nD) (O : CellTallies nD τ sig Unit) : sProp 𝕄 := iprop(∃ W, owes (c : Thread nD τ) O W)

/-- The right to pay the two duties of copy `t` of device `c`. -/
def fare (t : Fin 12) (c : Dev nD) : sProp 𝕄 :=
  iprop(dutyTok ER (sendCell t c) 0 false ∗ dutyTok ER (recvCell t (peer t c)) 0 false)
/-- The owner's place at a copy cell nobody has waited on yet, and the credit to wait on it. -/
def place (o : OwnKey) (c : Dev nD) : sProp 𝕄 := atPos ER (ownCell o c) 0 ∅ 0
def owed (o : OwnKey) (c : Dev nD) : sProp 𝕄 := cred (tallyAt (ownCell o c) () blkN)
/-- All it takes to wait on a copy cell. -/
def due (o : OwnKey) (c : Dev nD) : sProp 𝕄 := iprop(place o c ∗ owed o c)
/-- All it takes to start copy `t`, besides the block to be sent: the two duties, the sender's place, the block the copy lands in. -/
def ticket (t : Fin 12) (c : Dev nD) : sProp 𝕄 := iprop(fare t c ∗ place (false, t) c ∗ free (F := F) (dstM t) (peer t c))

/-! ## Copies -/

theorem start_copy (c : Dev nD) (t : Fin 12) (i : ℕ) (hi : t.val = i) {n : Dev nD} {src dst : Memref sig .tc .vmem S256x512 .bf16} {sS sR : SemLoc sig}
    (hn : n = peer t c) (hsrc : src = srcM t) (hdst : dst = dstM t) (hS : sS = .dma (copyQ (false, t))) (hR : sR = .dma (copyQ (true, t)))
    {hsc : dst.view.ref.isScScratch = false} {h1 : src.view.WordExact} {h2 : dst.view.WordExact}
    {h3 : DmaTarget.Typed .vmem sR (.remote (Dev.tc n : Thread nD τ) dst sS hsc)} {α : Type} {k : PUnit → Prog (TpuEff nD τ sig (Elt F) Λ₀ .tc) α} {Q : α → sProp 𝕄} :
    records val K ⊢ iprop(debt c (owe c i) -∗ ticket t c -∗ holds (srcM t) (shr t) c (val t c)
      -∗ (debt c (owe c (i + 1)) -∗ due (false, t) c -∗ runs c (k ⟨⟩) Q)
        -∗ runs c (.op (.enqueueDma src (.remote (Dev.tc n : Thread nD τ) dst sS hsc) sR h1 h2 h3) k) Q) := by
  subst hi hn hsrc hdst hS hR
  unfold due ticket debt fare free holds
  iintro #HR ⟨%W, HO⟩ ⟨⟨HtS, HtR⟩, Hpl, ⟨%w, %fd, -, Hd⟩⟩ ⟨%fs, %hfs, Hs⟩
  iintro Hk
  iapply (Rounds.wp_send_pointsTo 𝒱₀ ER (sched val) (c : Thread nD τ) none (κ₁ := K (c, some (false, t))) (κ₂ := K (peer t c, some (true, t)))
    (r₁ := 0) (r₂ := 0) (d₁ := false) (d₂ := false) (fs := fs) (fd := fd) (q := shr t)
    (by rw [duties_own]; exact Finset.mem_singleton_self _) (by rw [duties_own]; exact Finset.mem_singleton_self _)
    () () blkN (dst_amount t _) (amount_own val c (false, t) false) (amount_own val (peer t c) (true, t) false) (owe c (t.val + 1)) (owe_start c t) (W := W)
    (by rw [payload_send]; unfold holds; iintro H; iexists fs; isplitr; · ipureintro; exact hfs
        iexact H)
    (by rw [payload_recv, orig_peer]; unfold holds; iintro H
        iexists (dstM t).view.write (Elt F) fd ((srcM t).view.read (Elt F) fs) Finset.univ
        isplitr; · ipureintro; rw [View.read_write_univ]; exact hfs
        iexact H)) $$ [HO HtS HtR Hs Hd]
  · isplitr; · iapply (inv_own val K (false, t) c); iexact HR
    isplitr; · iapply (inv_own val K (true, t) (peer t c)); iexact HR
    isplitl [Hs]; · iexact Hs
    isplitl [Hd]; · iexact Hd
    isplitl [HO]; · iexact HO
    isplitl [HtS]; · iexact HtS
    isplitr; · iapply (reached_own val K (false, t) c); iexact HR
    isplitl [HtR]; · iexact HtR
    iapply (reached_own val K (true, t) (peer t c)); iexact HR
  iintro ⟨Hc, HO⟩
  ihave HO' : iprop(∃ W, owes (c : Thread nD τ) (owe c (t.val + 1)) W) $$ [HO]
  · iexists W; iexact HO
  ihave Hd' : iprop(place (F := F) (false, t) c ∗ owed (false, t) c) $$ [Hpl Hc]
  · isplitl [Hpl]; · iexact Hpl
    unfold owed; iexact Hc
  iapply Hk $$ HO' Hd'

/-- Waiting on an own copy semaphore brings its payload and, the cell being used up, its counter at zero. -/
theorem await_copy (c : Dev nD) (o : OwnKey) (O : CellTallies nD τ sig Unit) {src dst : Memref sig .tc .vmem S256x512 .bf16} {q : DmaSem sig}
    (hq : q = copyQ o) (hO : (levAts L lv : sProp 𝕄) ⊢ MayWait (c : Thread nD τ) (.dma (copyQ o)) () O)
    {h1 : src.view.WordExact} {h2 : dst.view.WordExact} {α : Type} {k : PUnit → Prog (TpuEff nD τ sig (Elt F) Λ₀ .tc) α} {Q : α → sProp 𝕄} :
    records val K ⊢ iprop(levAts L lv -∗ debt c O -∗ due o c
      -∗ (debt c O -∗ copyPay val o c -∗ semVal (ownCell o c) 0 -∗ runs c (k ⟨⟩) Q)
        -∗ runs c (.op (.waitDma2 q src dst h1 h2) k) Q) := by
  subst hq
  unfold due debt place owed
  iintro #HR #Hlev ⟨%W, HO⟩ ⟨Hat, Hc⟩
  iintro Hk
  iapply (Rounds.wp_wait_rest_token 𝒱₀ ER (sched val) (c : Thread nD τ) none (κ := K (c, some o))
      (wpE_waitDma2_eq 𝒱₀ (c : Thread nD τ) none Set.univ) (Set.mem_univ _) () (k' := dst.view.dmaCredit) (O := O) (W := W) (R := 0) (m := 0) (T := ∅)
      (by rw [Nat.zero_add, expect_own])) $$ [HO Hat Hc]
  · isplitr; · iapply (inv_own val K o c); iexact HR
    isplitl [Hc]; · iexact Hc
    isplitl [HO]; · iexact HO
    isplitr; · iapply hO; iexact Hlev
    iexact Hat
  iintro ⟨HO, Hat, -, Hpay⟩
  ihave Hp := (Entails.of_eq (rest_own val c o)) $$ Hpay
  imod (Rounds.cell_close ER (sched val) (Set.mem_univ (K (c, some o))) (fun h => h) (R := 0 + 1) (duties_after val (ownCell o c))) $$ [Hat] with Hz
  · isplitr; · iapply (inv_own val K o c); iexact HR
    iexact Hat
  ihave HO' : iprop(∃ W, owes (c : Thread nD τ) O W) $$ [HO]
  · iexists _; iexact HO
  iapply Hk $$ HO' Hp Hz

/-- The wait on copy `t`'s arrival, when copies before number `n > t` have started. -/
theorem await_arrival (c : Dev nD) (t : Fin 12) (n : ℕ) (hn : t.val < n) {src dst : Memref sig .tc .vmem S256x512 .bf16} {q : DmaSem sig}
    (hq : q = copyQ (true, t))
    {h1 : src.view.WordExact} {h2 : dst.view.WordExact} {α : Type} {k : PUnit → Prog (TpuEff nD τ sig (Elt F) Λ₀ .tc) α} {Q : α → sProp 𝕄} :
    records val K ⊢ iprop(levAts L lv -∗ debt c (owe c n) -∗ due (true, t) c
      -∗ (debt c (owe c n) -∗ holds (dstM t) fullShare c (val t (orig t c)) -∗ semVal (recvCell t c) 0 -∗ runs c (k ⟨⟩) Q)
        -∗ runs c (.op (.waitDma2 q src dst h1 h2) k) Q) :=
  await_copy val K c (true, t) (owe c n) hq (mayWait_recv c t n hn)

/-- The wait on copy `t`'s departure, when all copies have started. -/
theorem await_departure (c : Dev nD) (t : Fin 12) {src dst : Memref sig .tc .vmem S256x512 .bf16} {q : DmaSem sig}
    (hq : q = copyQ (false, t))
    {h1 : src.view.WordExact} {h2 : dst.view.WordExact} {α : Type} {k : PUnit → Prog (TpuEff nD τ sig (Elt F) Λ₀ .tc) α} {Q : α → sProp 𝕄} :
    records val K ⊢ iprop(levAts L lv -∗ debt c (owe c 12) -∗ due (false, t) c
      -∗ (debt c (owe c 12) -∗ holds (srcM t) (shr t) c (val t c) -∗ semVal (sendCell t c) 0 -∗ runs c (k ⟨⟩) Q)
        -∗ runs c (.op (.waitDma2 q src dst h1 h2) k) Q) :=
  await_copy val K c (false, t) (owe c 12) hq (by rw [owe_end, MayWait_zero]; iintro -; iempintro)

/-! ## Blocks -/

section Blocks
variable {s s4 : Shape}

/-- A block's contents at the shape of the rectangle it is stored in, and back. -/
def spread (h : S256x512.numel = s4.numel) (w : Blk F) : s4.Idx → Elt F .bf16 := fun j => w ((Shape.reshapeEquiv h).symm j)
def gather (h : S256x512.numel = s4.numel) (u : s4.Idx → Elt F .bf16) : Blk F := fun i => u (Shape.reshapeEquiv h i)

variable {m : Memref sig .tc .vmem s .bf16} {r : Rect s} {M : Memref sig .tc .vmem S256x512 .bf16}

theorem load_block (c : Dev nD) (q : PosShare TreeShare) (w : Blk F) (h : S256x512.numel = r.shape.numel) (hM : M.view = (m.access r).reshape S256x512 h)
    {hl : m.view.LoadsAt r} {α : Type} {k : (r.shape.Idx → Elt F .bf16) → Prog (TpuEff nD τ sig (Elt F) Λ₀ .tc) α} {Q : α → sProp 𝕄} :
    holds M q c w ⊢ iprop((holds M q c w -∗ runs c (k (spread h w)) Q) -∗ runs c (.op (.load m r hl) k) Q) := by
  unfold holds
  rw [hM]
  iintro ⟨%f, %hf, H⟩ Hk
  rw [View.set_reshape]
  iapply (wp_load_rect 𝒱₀ (c : Thread nD τ) none Set.univ (m := m) (r := r) (Finset.Subset.refl _)) $$ H
  iintro H
  rw [show (m.access r).read (Elt F) f = spread h w from by
    rw [← hf]; funext j
    show _ = (m.access r).read (Elt F) f (Shape.reshapeEquiv h ((Shape.reshapeEquiv h).symm j))
    rw [Equiv.apply_symm_apply]]
  iapply Hk
  iexists f
  isplitr; · ipureintro; exact hf
  iexact H

theorem store_block (c : Dev nD) (w : Blk F) (u : r.shape.Idx → Elt F .bf16) (h : S256x512.numel = r.shape.numel) (hM : M.view = (m.access r).reshape S256x512 h)
    {hx : (m.access r).Stores Finset.univ} {hm : (Finset.univ : Finset r.shape.Idx) = Finset.univ ∨ ∀ a, r.stride a = 1}
    {α : Type} {k : PUnit → Prog (TpuEff nD τ sig (Elt F) Λ₀ .tc) α} {Q : α → sProp 𝕄} :
    holds M fullShare c w
      ⊢ iprop((holds M fullShare c (gather h u) -∗ runs c (k ⟨⟩) Q) -∗ runs c (.op (.store m r u Finset.univ hx hm) k) Q) := by
  unfold holds
  rw [hM]
  iintro ⟨%f, -, H⟩ Hk
  rw [View.set_reshape]
  iapply (wp_store 𝒱₀ (c : Thread nD τ) none Set.univ (m := m) (r := r) (Mk := Finset.univ) (S := (m.access r).set) (f := f) (Finset.Subset.refl _)) $$ H
  iintro H
  iapply Hk
  iexists (m.access r).write (Elt F) f u Finset.univ
  isplitr
  · ipureintro; funext i
    show (m.access r).read (Elt F) ((m.access r).write (Elt F) f u Finset.univ) (Shape.reshapeEquiv h i) = _
    rw [View.read_write_univ]; rfl
  iexact H

end Blocks

/-- The full share of a block is its two halves. -/
theorem holds_halves (M : Memref sig .tc .vmem S256x512 .bf16) (c : Dev nD) (w : Blk F) :
    holds M fullShare c w ⊢ iprop(holds M fullShare.left c w ∗ holds M fullShare.right c w) := by
  unfold holds
  iintro ⟨%f, %hf, H⟩
  ihave H' := ((pointsTo_share (PosShare.mem_left_op_right fullShare)).1) $$ H
  icases H' with ⟨H1, H2⟩
  isplitl [H1]
  · iexists f; isplitr; · ipureintro; exact hf
    iexact H1
  iexists f; isplitr; · ipureintro; exact hf
  iexact H2

theorem halves_free (M : Memref sig .tc .vmem S256x512 .bf16) (c : Dev nD) (w w' : Blk F) :
    iprop(holds M fullShare.left c w ∗ holds M fullShare.right c w') ⊢ free (F := F) M c := by
  unfold free holds
  iintro ⟨⟨%f, -, H1⟩, ⟨%g, -, H2⟩⟩
  ihave %hfg := pointsTo_agree $$ [H1 H2]
  · isplitl [H1] <;> iassumption
  ihave H3 := (Entails.of_eq (pointsTo_congr (f := g) (g := f) fun i hi => (hfg i (Finset.mem_inter.mpr ⟨hi, hi⟩)).1.symm)) $$ H2
  iexists _, f
  isplitr; · ipureintro; rfl
  iapply ((pointsTo_share (PosShare.mem_left_op_right fullShare)).2)
  isplitl [H1] <;> iassumption

/-! ## Whole buffers -/

section Whole
variable {s : Shape} {e : EltTy} (m : Memref sig .tc .vmem s e) (c : Dev nD)

/-- The buffer of `m`, all of it, on device `c`, at contents `f`. -/
abbrev bufAt (f : Buf (Elt F) (m.view.loc (c : Thread nD τ))) : sProp 𝕄 := (m.view.loc (c : Thread nD τ)) ↦{fullShare} f

theorem load_rect (f : Buf (Elt F) (m.view.loc (c : Thread nD τ))) {r : Rect s}
    {hl : m.view.LoadsAt r} {α : Type} {k : (r.shape.Idx → Elt F e) → Prog (TpuEff nD τ sig (Elt F) Λ₀ .tc) α} {Q : α → sProp 𝕄} :
    bufAt m c f ⊢ iprop((bufAt m c f -∗ runs c (k ((m.access r).read (Elt F) f)) Q) -∗ runs c (.op (.load m r hl) k) Q) :=
  wp_load_rect 𝒱₀ (c : Thread nD τ) none Set.univ (m := m) (r := r) (Finset.subset_univ _)

variable {ι : Type} (size : Fin s.rank → ℕ) (O : ι → Fin s.rank → ℕ) (hO : ∀ p a, O p a + size a ≤ s.size a)
  (w : ι → (⟨s.rank, size⟩ : Shape).Idx → Elt F e)

/-- The buffer of `m` on device `c`, whose rectangles `O p` (of one size) hold `w p` for `p` in the list `D`. -/
def filled (D : List ι) : sProp 𝕄 :=
  iprop(∃ f : Buf (Elt F) (m.view.loc (c : Thread nD τ)),
    ⌜∀ p ∈ D, (m.access (Rect.unit (O p) size (hO p))).read (Elt F) f = w p⌝ ∗ bufAt m c f)

variable (D : List ι)

/-- Reading a rectangle of it, whatever it holds (a value the program does not use). -/
theorem load_any {r : Rect s}
    {hl : m.view.LoadsAt r} {α : Type} {k : (r.shape.Idx → Elt F e) → Prog (TpuEff nD τ sig (Elt F) Λ₀ .tc) α} {Q : α → sProp 𝕄} :
    filled m c size O hO w D
      ⊢ iprop((∀ v, filled m c size O hO w D -∗ runs c (k v) Q) -∗ runs c (.op (.load m r hl) k) Q) := by
  unfold filled
  iintro ⟨%f, %hf, H⟩ Hk
  iapply (load_rect m c f) $$ H
  iintro H
  iapply Hk
  iexists f
  isplitr; · ipureintro; exact hf
  iexact H

/-- Filling one more rectangle. -/
theorem store_rect (hdis : ∀ p q, p ≠ q → Disjoint (Rect.unit (O p) size (hO p)).set (Rect.unit (O q) size (hO q)).set)
    (p : ι) (hp : p ∉ D) {off : Fin s.rank → ℕ} (hoff : off = O p) {inb : ∀ a, off a + size a ≤ s.size a}
    {u : (⟨s.rank, size⟩ : Shape).Idx → Elt F e} (hu : u = w p)
    {hx : (m.access (Rect.unit off size inb)).Stores Finset.univ} {hm} {α : Type} {k : PUnit → Prog (TpuEff nD τ sig (Elt F) Λ₀ .tc) α} {Q : α → sProp 𝕄} :
    filled m c size O hO w D
      ⊢ iprop((filled m c size O hO w (p :: D) -∗ runs c (k ⟨⟩) Q) -∗ runs c (.op (.store m (Rect.unit off size inb) u Finset.univ hx hm) k) Q) := by
  subst hoff hu
  unfold filled
  iintro ⟨%f, %hf, H⟩ Hk
  iapply (wp_store 𝒱₀ (c : Thread nD τ) none Set.univ (m := m) (r := Rect.unit (O p) size inb) (Mk := Finset.univ) (Finset.subset_univ _)) $$ H
  iintro H
  iapply Hk
  iexists (m.access (Rect.unit (O p) size inb)).write (Elt F) f (w p) Finset.univ
  isplitr
  · ipureintro; intro q hq
    rcases List.mem_cons.mp hq with rfl | hq
    · exact View.read_write_univ _ _
    · refine (View.read_slice_write_slice_of_disjoint _ _ _ _ _ ?_).trans (hf q hq)
      exact View.disjoint_slice (hdis q p fun e => hp (e ▸ hq))
  iexact H

/-- Reading a rectangle of it whose contents the filled rectangles determine. -/
theorem load_filled {r : Rect s} (v : r.shape.Idx → Elt F e)
    (hv : ∀ f : Buf (Elt F) (m.view.loc (c : Thread nD τ)),
      (∀ p ∈ D, (m.access (Rect.unit (O p) size (hO p))).read (Elt F) f = w p) → (m.access r).read (Elt F) f = v)
    {hl : m.view.LoadsAt r} {α : Type} {k : (r.shape.Idx → Elt F e) → Prog (TpuEff nD τ sig (Elt F) Λ₀ .tc) α} {Q : α → sProp 𝕄} :
    filled m c size O hO w D
      ⊢ iprop((filled m c size O hO w D -∗ runs c (k v) Q) -∗ runs c (.op (.load m r hl) k) Q) := by
  unfold filled
  iintro ⟨%f, %hf, H⟩ Hk
  iapply (load_rect m c f) $$ H
  rw [hv f hf]
  iintro H
  iapply Hk
  iexists f
  isplitr; · ipureintro; exact hf
  iexact H

end Whole

end Cert.Ring
-- ==== Proof.Contents.lean ====
/-
What the kernel's buffers hold, device by device, as functions of the operands: the gate columns, the partial products,
the contents of the twelve copies and the blocks of the result. All of it over any float values `F`, spelled with the
kernel's own payload functions.

Rows are cut in four chunks of 256. Device `c` meets them starting from its own: chunk `j` of device `c` is the rows from
`256 * ((c + j) % 4)`.
-/
module

public import proofs.«01_k».proof.Proof.Rules
public import Idealize.ShloMosaic.Lib.ValueIdxCore

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Chunks -/

/-- The first row of chunk `j` of device `c`. -/
abbrev row0 (c : Dev nD) (j : Fin 4) : ℕ := 256 * ((c.val + j.val) % 4)

theorem inbX (c : Dev nD) (j : Fin 4) : ∀ a, (![row0 c j, 0] : Fin 2 → ℕ) a + S256x512.size a ≤ S1024x512.size a := by
  revert c j; decide +kernel
theorem inbI (c : Dev nD) (j : Fin 4) : ∀ a, (![row0 c j, 0] : Fin 2 → ℕ) a + S256x2.size a ≤ S1024x2.size a := by
  revert c j; decide +kernel
theorem inbG (c : Dev nD) (p : Fin 4 × Fin 4) : ∀ a, (![row0 c p.1, p.2.val] : Fin 2 → ℕ) a + S256x1.size a ≤ S1024x4.size a := by
  revert c p; decide +kernel
theorem inbY (c : Dev nD) (p : Fin 4 × Fin 2) : ∀ a, (![row0 c p.1, 512 * p.2.val] : Fin 2 → ℕ) a + S256x512.size a ≤ S1024x1024.size a := by
  revert c p; decide +kernel

abbrev xM : Memref sig .tc .vmem S1024x512 .f32 := Memref.whole cc0_stg0_0
abbrev rM : Memref sig .tc .vmem S512x16 .f32 := Memref.whole cc0_stg1_0
abbrev iM : Memref sig .tc .vmem S1024x2 .i32 := Memref.whole cc0_stg2_0
abbrev eM : Memref sig .tc .vmem S4x512x1024 .f32 := Memref.whole cc0_stg3_0
abbrev yM : Memref sig .tc .vmem S1024x1024 .bf16 := Memref.whole cc0_stg4_0
abbrev gM : Memref sig .tc .vmem S1024x4 .f32 := Memref.whole cc0_scratch0

/-- The operands as each device holds them: tokens, router weights, chosen experts, the device's four experts. -/
structure Opnds (F : FTy → Type) where
  x : Dev nD → Vec F S1024x512 .f32
  r : Dev nD → Vec F S512x16 .f32
  i : Dev nD → Vec F S1024x2 .i32
  e : Dev nD → Vec F S4x512x1024 .f32

variable (A : Opnds F) (c : Dev nD)

/-- Chunk `j`'s tokens and expert choices, the router weights, the device's experts, as loaded. -/
def xs (j : Fin 4) : Vec F S256x512 .f32 := (xM.access (Rect.unit (s := S1024x512) ![row0 c j, 0] S256x512.size (inbX c j))).read (Elt F) (A.x c)
def is (j : Fin 4) : Vec F S256x2 .i32 := (iM.access (Rect.unit (s := S1024x2) ![row0 c j, 0] S256x2.size (inbI c j))).read (Elt F) (A.i c)
def rs : Vec F S512x16 .f32 := (rM.access (Rect.unit (s := S512x16) ![0, 0] S512x16.size inb_S512x16_S512x16_0_0)).read (Elt F) (A.r c)
def es : Vec F S4x512x1024 .f32 := (eM.access (Rect.unit (s := S4x512x1024) ![0, 0, 0] S4x512x1024.size inb_S4x512x1024_S4x512x1024_0_0_0)).read (Elt F) (A.e c)

/-- The device's own number as the kernel computes it. -/
def me : BitVec 32 := Scalar.remsi (Scalar.divsi (Dev.word c) 1#32) 4#32

/-! ## Gate columns -/

/-- The column the kernel writes for local expert `e` of a chunk with tokens `x` and choices `i`, in the kernel's words
    for each of the four chunks. -/
def gateCol (j : Fin 4) (n : BitVec 32) (x : Vec F S256x512 .f32) (r : Vec F S512x16 .f32) (i : Vec F S256x2 .i32) (e : Fin 4) : Vec F S256x1 .f32 :=
  match j with
  | 0 =>
    let p := k0_pay1 x r; let q := k0_pay2 (F := F) i; let l : IVec S256x16 32 := iota .tc S256x16 32 [1] iota_S256x16_d1_w32
    match e with
    | 0 => k0_pay6 n p q l
    | 1 => k0_pay10 (k0_pay4 p q l) (k0_pay5 p q l) (k0_pay7 n p q l) (k0_pay8 q) (k0_pay9 n)
    | 2 => k0_pay11 n q (k0_pay3 p q l) (k0_pay4 p q l) (k0_pay5 p q l)
    | 3 => k0_pay13 (k0_pay12 n q (k0_pay3 p q l) (k0_pay4 p q l) (k0_pay5 p q l))
  | 1 =>
    let q := k0_pay21 (F := F) i; let a := k0_pay22 x r i; let b := k0_pay23 x r i; let s := k0_pay24 x r i
    match e with
    | 0 => k0_pay27 b s (k0_pay25 n x r i) (k0_pay26 (F := F) n i)
    | 1 => k0_pay28 n q a b s
    | 2 => k0_pay29 n q a b s
    | 3 => k0_pay30 n q a b s
  | 2 =>
    let p := k0_pay31 x r; let q := k0_pay32 (F := F) i; let l : IVec S256x16 32 := iota .tc S256x16 32 [1] iota_S256x16_d1_w32
    let d := k0_pay33 (F := F) i
    match e with
    | 0 => k0_pay37 n p q l d
    | 1 => k0_pay41 (k0_pay38 n p q l d) (k0_pay39 n q) (k0_pay40 p q l d)
    | 2 => k0_pay42 n q (k0_pay34 p l d) (k0_pay35 p q l) (k0_pay36 p q l d)
    | 3 => k0_pay43 n q (k0_pay34 p l d) (k0_pay35 p q l) (k0_pay36 p q l d)
  | 3 =>
    let q := k0_pay45 (F := F) i; let a := k0_pay46 x r i; let b := k0_pay47 x r i; let s := k0_pay48 x r i
    match e with
    | 0 => k0_pay51 q a b s (Scalar.addi (Scalar.muli n 4#32) 0#32) (k0_pay49 (F := F) i) (k0_pay50 n)
    | 1 => k0_pay52 n q a b s
    | 2 => k0_pay56 (k0_pay53 n q a s) (k0_pay54 n q) (k0_pay55 b s) (FloatOps.ofBits .f32 0)
    | 3 => k0_pay57 n q a b s

def col (p : Fin 4 × Fin 4) : Vec F S256x1 .f32 := gateCol p.1 (me c) (xs A c p.1) (rs A c) (is A c p.1) p.2
/-- The four gate columns of chunk `j` side by side. -/
def ws (j : Fin 4) : Vec F S256x4 .f32 := fun i => col A c (j, i 1) (ValueIdx.ix2 (i 0) 0)

/-! ## Partial products: the device's four experts on chunk `j`, first half of the columns (`part0`) or second (`part1`) -/

abbrev s4 : Shape := S1x1x256x512
theorem n4 : S256x512.numel = S1x1x256x512.numel := by decide
theorem n3 : S256x512.numel = S1x256x512.numel := by decide

def part0 (j : Fin 4) : FVec F S256x512 .f32 :=
  let v := k0_pay15 (es A c); let x := xs A c j; let w := ws A c j
  match j with
  | 0 => k0_pay70 v x w
  | 1 => k0_pay70 v x w
  | 2 => k0_pay66 v x w
  | 3 => k0_pay62 v (k0_pay58 x) w (k0_pay59 x w) (k0_pay60 x w) (k0_pay61 x w)

def part1 (j : Fin 4) : FVec F S256x512 .f32 :=
  let v := k0_pay16 (es A c); let x := xs A c j; let w := ws A c j
  match j with
  | 0 => k0_pay63 v x w
  | 1 => k0_pay63 v x w
  | 2 => k0_pay67 v x w
  | 3 => k0_pay73 v (k0_pay71 x) w (k0_pay72 w)

/-! ## What travels: the sum for a row chunk, growing by one device per hop -/

def sA0 : Blk F := gather n4 (k0_pay18 (es A c) (xs A c 0) (ws A c 0))
def sB0 : Blk F := gather n4 (k0_pay19 (k0_pay16 (es A c)) (k0_pay17 (xs A c 0) (ws A c 0)))
def sA1 : Blk F := gather n4 (k0_pay64 (part0 A c 3) (spread n4 (sA0 A (orig 0 c))))
def sB1 : Blk F := gather n4 (k0_pay65 (part1 A c 1) (spread n4 (sB0 A (orig 1 c))))
def sA2 : Blk F := gather n4 (k0_pay68 (part0 A c 2) (spread n4 (sA1 A (orig 2 c))))
def sB2 : Blk F := gather n4 (k0_pay69 (part1 A c 2) (spread n4 (sB1 A (orig 3 c))))
/-- The finished sums: device `c` ends with the first half of chunk 1 and the second half of chunk 3. -/
def oA : Blk F := gather n3 (k0_pay75 (part0 A c 1) (spread n4 (sA2 A (orig 4 c))))
def oB : Blk F := gather n3 (k0_pay78 (part1 A c 3) (spread n4 (sB2 A (orig 5 c))))

/-- The contents of copy `t` leaving device `c`. -/
def sent (t : Fin 12) (c : Dev nD) : Blk F :=
  match t with
  | 0 => sA0 A c | 1 => sB0 A c | 2 => sA1 A c | 3 => sB1 A c | 4 => sA2 A c | 5 => sB2 A c
  | 6 => oA A c | 7 => oA A c | 8 => oB A c | 9 => oB A c
  | 10 => oA A (orig 6 c) | 11 => oB A (orig 9 c)

/-! ## The result, in eight blocks: chunk `p.1`, half `p.2` of the columns -/

def ob (p : Fin 4 × Fin 2) : FVec F S256x512 .bf16 :=
  match p with
  | (1, 0) => k0_pay76 (k0_pay74 (part0 A c 1) (spread n4 (sA2 A (orig 4 c))))
  | (3, 1) => k0_pay79 (k0_pay77 (part1 A c 3) (spread n4 (sB2 A (orig 5 c))))
  | (0, 0) => k0_pay80 (spread n4 (sent A 6 (orig 6 c)))
  | (2, 0) => k0_pay81 (spread n4 (sent A 7 (orig 7 c)))
  | (2, 1) => k0_pay82 (spread n4 (sent A 8 (orig 8 c)))
  | (0, 1) => k0_pay83 (spread n4 (sent A 9 (orig 9 c)))
  | (3, 0) => k0_pay84 (spread n3 (sent A 10 (orig 10 c)))
  | (1, 1) => k0_pay85 (spread n3 (sent A 11 (orig 11 c)))

/-! ## The two buffers filled rectangle by rectangle -/

abbrev gates (D : List (Fin 4 × Fin 4)) : sProp 𝕄 :=
  filled gM c S256x1.size (fun p => ![row0 c p.1, p.2.val]) (inbG c) (col A c) D
abbrev result (D : List (Fin 4 × Fin 2)) : sProp 𝕄 :=
  filled yM c S256x512.size (fun p => ![row0 c p.1, 512 * p.2.val]) (inbY c) (ob A c) D

omit [FloatOps F] in
theorem chunk_ne {c : Dev nD} {j k : Fin 4} (h : j ≠ k) : row0 c j + 256 ≤ row0 c k ∨ row0 c k + 256 ≤ row0 c j := by
  revert h; revert c j k; decide

theorem gates_disjoint (p q : Fin 4 × Fin 4) (h : p ≠ q) :
    Disjoint (Rect.unit (s := S1024x4) ![row0 c p.1, p.2.val] S256x1.size (inbG c p)).set (Rect.unit (s := S1024x4) ![row0 c q.1, q.2.val] S256x1.size (inbG c q)).set := by
  by_cases hj : p.1 = q.1
  · have hk : p.2.val ≠ q.2.val := fun e => h (Prod.ext hj (Fin.ext e))
    refine Rect.unit_disjoint (1 : Fin 2) ?_
    show p.2.val + 1 ≤ q.2.val ∨ q.2.val + 1 ≤ p.2.val
    omega
  · exact Rect.unit_disjoint (0 : Fin 2) (chunk_ne hj)

theorem result_disjoint (p q : Fin 4 × Fin 2) (h : p ≠ q) :
    Disjoint (Rect.unit (s := S1024x1024) ![row0 c p.1, 512 * p.2.val] S256x512.size (inbY c p)).set (Rect.unit (s := S1024x1024) ![row0 c q.1, 512 * q.2.val] S256x512.size (inbY c q)).set := by
  by_cases hj : p.1 = q.1
  · have hk : p.2.val ≠ q.2.val := fun e => h (Prod.ext hj (Fin.ext e))
    refine Rect.unit_disjoint (1 : Fin 2) ?_
    show 512 * p.2.val + 512 ≤ 512 * q.2.val ∨ 512 * q.2.val + 512 ≤ 512 * p.2.val
    omega
  · exact Rect.unit_disjoint (0 : Fin 2) (chunk_ne hj)

/-! ## Loads at offsets given by the kernel's own address computations -/

theorem load_at {s : Shape} {e : EltTy} {m : Memref sig .tc .vmem s e} {size off : Fin s.rank → ℕ} (off' : Fin s.rank → ℕ) (h : off = off')
    {inb : ∀ a, off a + size a ≤ s.size a} (inb' : ∀ a, off' a + size a ≤ s.size a) (f : Buf (Elt F) (m.view.loc (c : Thread nD τ)))
    (v : (⟨s.rank, size⟩ : Shape).Idx → Elt F e) (hv : (m.access (Rect.unit off' size inb')).read (Elt F) f = v)
    {hl : m.view.LoadsAt (Rect.unit off size inb).toLoadRect} {α : Type} {k : ((⟨s.rank, size⟩ : Shape).Idx → Elt F e) → Prog (TpuEff nD τ sig (Elt F) Λ₀ .tc) α} {Q : α → sProp 𝕄} :
    bufAt m c f ⊢ iprop((bufAt m c f -∗ runs c (k v) Q) -∗ runs c (.op (.load m (Rect.unit off size inb).toLoadRect hl) k) Q) := by
  subst h hv
  exact load_rect m c f

/-- Loading chunk `j`'s four gate columns once they are all written. -/
theorem load_gates (D : List (Fin 4 × Fin 4)) (j : Fin 4) (hD : ∀ e, (j, e) ∈ D) {off : Fin 2 → ℕ} (h : off = ![row0 c j, 0])
    {inb : ∀ a, off a + S256x4.size a ≤ S1024x4.size a}
    {hl : gM.view.LoadsAt (Rect.unit (s := S1024x4) off S256x4.size inb).toLoadRect} {α : Type} {k : Vec F S256x4 .f32 → Prog (TpuEff nD τ sig (Elt F) Λ₀ .tc) α} {Q : α → sProp 𝕄} :
    gates A c D
      ⊢ iprop((gates A c D -∗ runs c (k (ws A c j)) Q) -∗ runs c (.op (.load gM (Rect.unit (s := S1024x4) off S256x4.size inb).toLoadRect hl) k) Q) := by
  subst h
  refine load_filled _ _ _ _ _ _ _ (r := Rect.unit (s := S1024x4) ![row0 c j, 0] S256x4.size inb) (ws A c j) fun f hf => ?_
  funext i
  refine Eq.trans ?_ (congrFun (hf (j, i 1) (hD _)) (ValueIdx.ix2 (i 0) 0))
  rw [View.read_apply, View.read_apply]
  refine congrArg f (funext fun a => Fin.ext ?_)
  match a with
  | ⟨0, _⟩ => rfl
  | ⟨1, _⟩ => show 0 + 1 * (i 1).val = (i 1).val + 1 * 0; omega

/-- A column of the gates is written: the kernel loads it first and forgets what it read. -/
theorem put_gate {D : List (Fin 4 × Fin 4)} (p : Fin 4 × Fin 4) (hD : p ∉ D) {off off₁ : Fin 2 → ℕ} {inb : ∀ a, off a + S256x1.size a ≤ S1024x4.size a} {inb₁ : ∀ a, off₁ a + S256x1.size a ≤ S1024x4.size a}
    (h : off = ![row0 c p.1, p.2.val]) {u : Vec F S256x1 .f32} (hu : u = col A c p)
    {hl : gM.view.LoadsAt (Rect.unit (s := S1024x4) off₁ S256x1.size inb₁).toLoadRect} {hx : (gM.access (Rect.unit off S256x1.size inb)).Stores Finset.univ} {hm}
    {α : Type} {k : PUnit → Prog (TpuEff nD τ sig (Elt F) Λ₀ .tc) α} {Q : α → sProp 𝕄} :
    gates A c D ⊢ iprop((gates A c (p :: D) -∗ runs c (k ⟨⟩) Q)
      -∗ runs c (.op (.load gM (Rect.unit (s := S1024x4) off₁ S256x1.size inb₁).toLoadRect hl) fun _ => .op (.store gM (Rect.unit off S256x1.size inb) u Finset.univ hx hm) k) Q) := by
  iintro G HQ
  iapply (load_any (ι := Fin 4 × Fin 4) _ _ _ _ _ _ _) $$ G
  iintro %v G
  iapply (store_rect (ι := Fin 4 × Fin 4) _ _ _ _ _ _ _ (gates_disjoint c) p hD h hu) $$ G
  iexact HQ

/-- A block of the result is written. -/
theorem put_result {D : List (Fin 4 × Fin 2)} (p : Fin 4 × Fin 2) (hD : p ∉ D) {off off₁ : Fin 2 → ℕ} {inb : ∀ a, off a + S256x512.size a ≤ S1024x1024.size a} {inb₁ : ∀ a, off₁ a + S256x512.size a ≤ S1024x1024.size a}
    (h : off = ![row0 c p.1, 512 * p.2.val]) {u : FVec F S256x512 .bf16} (hu : u = ob A c p)
    {hl : yM.view.LoadsAt (Rect.unit (s := S1024x1024) off₁ S256x512.size inb₁).toLoadRect} {hx : (yM.access (Rect.unit off S256x512.size inb)).Stores Finset.univ} {hm}
    {α : Type} {k : PUnit → Prog (TpuEff nD τ sig (Elt F) Λ₀ .tc) α} {Q : α → sProp 𝕄} :
    result A c D ⊢ iprop((result A c (p :: D) -∗ runs c (k ⟨⟩) Q)
      -∗ runs c (.op (.load yM (Rect.unit (s := S1024x1024) off₁ S256x512.size inb₁).toLoadRect hl) fun _ => .op (.store yM (Rect.unit off S256x512.size inb) u Finset.univ hx hm) k) Q) := by
  iintro G HQ
  iapply (load_any (ι := Fin 4 × Fin 2) _ _ _ _ _ _ _) $$ G
  iintro %v G
  iapply (store_rect (ι := Fin 4 × Fin 2) _ _ _ _ _ _ _ (result_disjoint c) p hD h hu) $$ G
  iexact HQ

/-- A block is written over whatever it held. -/
theorem put_block {s : Shape} {m : Memref sig .tc .vmem s .bf16} {r : Rect s} {M : Memref sig .tc .vmem S256x512 .bf16}
    (h : S256x512.numel = r.shape.numel) (hM : M.view = (m.access r).reshape S256x512 h) (u : r.shape.Idx → Elt F .bf16)
    {hl : m.view.LoadsAt r.toLoadRect} {hx : (m.access r).Stores Finset.univ} {hm}
    {α : Type} {k : PUnit → Prog (TpuEff nD τ sig (Elt F) Λ₀ .tc) α} {Q : α → sProp 𝕄} :
    free (F := F) M c ⊢ iprop((holds M fullShare c (gather h u) -∗ runs c (k ⟨⟩) Q)
      -∗ runs c (.op (.load m r.toLoadRect hl) fun _ => .op (.store m r u Finset.univ hx hm) k) Q) := by
  unfold free
  iintro ⟨%w, H⟩ HQ
  iapply (load_block c _ w h hM) $$ H
  iintro H
  iapply (store_block c w u h hM) $$ H
  iexact HQ

/-- The operands in a device's staging buffers. -/
abbrev inX : sProp 𝕄 := bufAt xM c (A.x c)
abbrev inR : sProp 𝕄 := bufAt rM c (A.r c)
abbrev inI : sProp 𝕄 := bufAt iM c (A.i c)
abbrev inE : sProp 𝕄 := bufAt eM c (A.e c)

/-! ## The offsets of the program, closed -/

theorem at1 : k0_off1 c = ![row0 c 0, 0] := by revert c; decide +kernel
theorem at2 : k0_off2 c = ![row0 c 0, 0] := by revert c; decide +kernel
theorem at3 : k0_off3 c = ![row0 c 0, 0] ∧ k0_off4 c = ![row0 c 0, 1] ∧ k0_off5 c = ![row0 c 0, 2] ∧ k0_off6 c = ![row0 c 0, 3] := by revert c; decide +kernel
theorem at7 : k0_off7 c = ![row0 c 0, 0] := by revert c; decide +kernel
theorem at8 : k0_off8 c 1#32 = ![row0 c 1, 0] ∧ k0_off8 c 2#32 = ![row0 c 2, 0] ∧ k0_off8 c 3#32 = ![row0 c 3, 0] := by revert c; decide +kernel
theorem at9 : k0_off9 c 1#32 = ![row0 c 1, 0] ∧ k0_off9 c 2#32 = ![row0 c 2, 0] ∧ k0_off9 c 3#32 = ![row0 c 3, 0] := by revert c; decide +kernel
theorem at10 : k0_off10 c 1#32 = ![row0 c 1, 0] ∧ k0_off10 c 2#32 = ![row0 c 2, 0] ∧ k0_off10 c 3#32 = ![row0 c 3, 0] := by revert c; decide +kernel
theorem at11 : k0_off11 c 1#32 = ![row0 c 1, 1] ∧ k0_off11 c 2#32 = ![row0 c 2, 1] ∧ k0_off11 c 3#32 = ![row0 c 3, 1] := by revert c; decide +kernel
theorem at12 : k0_off12 c 1#32 = ![row0 c 1, 2] ∧ k0_off12 c 2#32 = ![row0 c 2, 2] ∧ k0_off12 c 3#32 = ![row0 c 3, 2] := by revert c; decide +kernel
theorem at13 : k0_off13 c 1#32 = ![row0 c 1, 3] ∧ k0_off13 c 2#32 = ![row0 c 2, 3] ∧ k0_off13 c 3#32 = ![row0 c 3, 3] := by revert c; decide +kernel
theorem at14 : k0_off14 c 1#32 = ![row0 c 1, 0] ∧ k0_off14 c 2#32 = ![row0 c 2, 0] ∧ k0_off14 c 3#32 = ![row0 c 3, 0] := by revert c; decide +kernel
theorem at15 : k0_off15 c 0#32 = ![row0 c 0, 0] ∧ k0_off15 c 1#32 = ![row0 c 1, 0] ∧ k0_off15 c 2#32 = ![row0 c 2, 0] ∧ k0_off15 c 3#32 = ![row0 c 3, 0] := by revert c; decide +kernel
theorem at16 : k0_off16 c 0#32 = ![row0 c 0, 512] ∧ k0_off16 c 1#32 = ![row0 c 1, 512] ∧ k0_off16 c 2#32 = ![row0 c 2, 512] ∧ k0_off16 c 3#32 = ![row0 c 3, 512] := by revert c; decide +kernel

/-! ## The four loads of operands -/

theorem load_x (j : Fin 4) {off : Fin 2 → ℕ} (h : off = ![row0 c j, 0]) {inb : ∀ a, off a + S256x512.size a ≤ S1024x512.size a}
    {hl : xM.view.LoadsAt (Rect.unit (s := S1024x512) off S256x512.size inb).toLoadRect} {α : Type} {k : Vec F S256x512 .f32 → Prog (TpuEff nD τ sig (Elt F) Λ₀ .tc) α} {Q : α → sProp 𝕄} :
    inX A c ⊢ iprop((inX A c -∗ runs c (k (xs A c j)) Q) -∗ runs c (.op (.load xM (Rect.unit (s := S1024x512) off S256x512.size inb).toLoadRect hl) k) Q) :=
  load_at c _ h (inbX c j) _ _ rfl
theorem load_i (j : Fin 4) {off : Fin 2 → ℕ} (h : off = ![row0 c j, 0]) {inb : ∀ a, off a + S256x2.size a ≤ S1024x2.size a}
    {hl : iM.view.LoadsAt (Rect.unit (s := S1024x2) off S256x2.size inb).toLoadRect} {α : Type} {k : Vec F S256x2 .i32 → Prog (TpuEff nD τ sig (Elt F) Λ₀ .tc) α} {Q : α → sProp 𝕄} :
    inI A c ⊢ iprop((inI A c -∗ runs c (k (is A c j)) Q) -∗ runs c (.op (.load iM (Rect.unit (s := S1024x2) off S256x2.size inb).toLoadRect hl) k) Q) :=
  load_at c _ h (inbI c j) _ _ rfl
theorem load_r {hl : rM.view.LoadsAt (Rect.unit (s := S512x16) ![0, 0] S512x16.size inb_S512x16_S512x16_0_0).toLoadRect} {α : Type} {k : Vec F S512x16 .f32 → Prog (TpuEff nD τ sig (Elt F) Λ₀ .tc) α} {Q : α → sProp 𝕄} :
    inR A c ⊢ iprop((inR A c -∗ runs c (k (rs A c)) Q) -∗ runs c (.op (.load rM (Rect.unit (s := S512x16) ![0, 0] S512x16.size inb_S512x16_S512x16_0_0).toLoadRect hl) k) Q) :=
  load_at c _ rfl _ _ _ rfl
theorem load_e {hl : eM.view.LoadsAt (Rect.unit (s := S4x512x1024) ![0, 0, 0] S4x512x1024.size inb_S4x512x1024_S4x512x1024_0_0_0).toLoadRect} {α : Type} {k : Vec F S4x512x1024 .f32 → Prog (TpuEff nD τ sig (Elt F) Λ₀ .tc) α} {Q : α → sProp 𝕄} :
    inE A c ⊢ iprop((inE A c -∗ runs c (k (es A c)) Q) -∗ runs c (.op (.load eM (Rect.unit (s := S4x512x1024) ![0, 0, 0] S4x512x1024.size inb_S4x512x1024_S4x512x1024_0_0_0).toLoadRect hl) k) Q) :=
  load_at c _ rfl _ _ _ rfl

end Cert.Ring
-- ==== Proof.BodyA.lean ====
/-
The body's first half: the barrier, and the gate columns of the four chunks (parts 1 to 14). Each part is proved once, on
the buffers it touches, and continues with the values it hands on.
-/
module

public import proofs.«01_k».proof.Proof.Contents
public import Idealize.ShloMosaic.Lib.Tactic

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A part of the body over the kernel's buffers and semaphores. -/
abbrev withBufs {T : Type 1} (f : (arg0 : Memref sig .tc .vmem S1024x512 .f32) → arg0.IsWhole → (arg1 : Memref sig .tc .vmem S512x16 .f32) → arg1.IsWhole →
    (arg2 : Memref sig .tc .vmem S1024x2 .i32) → arg2.IsWhole → (arg3 : Memref sig .tc .vmem S4x512x1024 .f32) → arg3.IsWhole →
    (arg4 : Memref sig .tc .vmem S1024x1024 .bf16) → arg4.IsWhole → (arg5 : Memref sig .tc .vmem S1024x4 .f32) → arg5.IsWhole →
    (arg6 : Memref sig .tc .vmem S2x3x256x512 .bf16) → arg6.IsWhole → (arg7 : Memref sig .tc .vmem S2x3x256x512 .bf16) → arg7.IsWhole →
    (arg8 : Memref sig .tc .vmem S2x256x512 .bf16) → arg8.IsWhole → (arg9 : Memref sig .tc .vmem S2x2x256x512 .bf16) → arg9.IsWhole →
    (arg10 : Memref sig .tc .vmem S2x256x512 .bf16) → arg10.IsWhole → DmaSems sig S2x3 → DmaSems sig S2x3 → DmaSems sig S2x2 → DmaSems sig S2x2 → DmaSems sig S2 → DmaSems sig S2 → T) : T :=
  f xM (Memref.isWhole_whole _) rM (Memref.isWhole_whole _) iM (Memref.isWhole_whole _) eM (Memref.isWhole_whole _) yM (Memref.isWhole_whole _) gM (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9 cc0_scratch10 cc0_scratch11

variable (A : Opnds F) (c : Dev nD)

abbrev bp1 := withBufs (k0_part1 (F := F))
abbrev bp2 := withBufs (k0_part2 (F := F))
abbrev bp3 := withBufs (k0_part3 (F := F))
abbrev bp4 := withBufs (k0_part4 (F := F))
abbrev bp5 := withBufs (k0_part5 (F := F))
abbrev bp6 := withBufs (k0_part6 (F := F))
abbrev bp7 := withBufs (k0_part7 (F := F))
abbrev bp8 := withBufs (k0_part8 (F := F))
abbrev bp9 := withBufs (k0_part9 (F := F))
abbrev bp10 := withBufs (k0_part10 (F := F))
abbrev bp11 := withBufs (k0_part11 (F := F))
abbrev bp12 := withBufs (k0_part12 (F := F))
abbrev bp13 := withBufs (k0_part13 (F := F))
abbrev bp14 := withBufs (k0_part14 (F := F))
abbrev bp15 := withBufs (k0_part15 (F := F))
abbrev bp16 := withBufs (k0_part16 (F := F))
abbrev bp17 := withBufs (k0_part17 (F := F))
abbrev bp18 := withBufs (k0_part18 (F := F))
abbrev bp19 := withBufs (k0_part19 (F := F))
abbrev bp20 := withBufs (k0_part20 (F := F))
abbrev bp21 := withBufs (k0_part21 (F := F))
abbrev bp22 := withBufs (k0_part22 (F := F))
abbrev bp23 := withBufs (k0_part23 (F := F))
abbrev bp24 := withBufs (k0_part24 (F := F))
abbrev bp25 := withBufs (k0_part25 (F := F))
abbrev bp26 := withBufs (k0_part26 (F := F))
abbrev bp27 := withBufs (k0_part27 (F := F))
abbrev bp28 := withBufs (k0_part28 (F := F))
abbrev bp29 := withBufs (k0_part29 (F := F))
abbrev bp30 := withBufs (k0_part30 (F := F))
abbrev bp31 := withBufs (k0_part31 (F := F))

theorem runs_bind {α β : Type} (p : Prog (TpuEff nD τ sig (Elt F) Λ₀ .tc) α) (k : α → Prog (TpuEff nD τ sig (Elt F) Λ₀ .tc) β) (Q : β → sProp 𝕄) :
    runs c (p >>= k) Q = runs c p fun a => runs c (k a) Q := wp_bind ..

theorem runs_ret {α : Type} (a : α) (Q : α → sProp 𝕄) : Q a ⊢ runs (F := F) c (.ret a) Q := by
  rw [runs, wp_ret]; iintro H; imodintro; iexact H

/-- All columns of the chunks before chunk `j`. -/
abbrev colsTo : Fin 5 → List (Fin 4 × Fin 4)
  | 0 => []
  | 1 => [(0, 3), (0, 2), (0, 1), (0, 0)]
  | 2 => [(1, 3), (1, 2), (1, 1), (1, 0), (0, 3), (0, 2), (0, 1), (0, 0)]
  | 3 => [(2, 3), (2, 2), (2, 1), (2, 0), (1, 3), (1, 2), (1, 1), (1, 0), (0, 3), (0, 2), (0, 1), (0, 0)]
  | 4 => [(3, 3), (3, 2), (3, 1), (3, 0), (2, 3), (2, 2), (2, 1), (2, 0), (1, 3), (1, 2), (1, 1), (1, 0), (0, 3), (0, 2), (0, 1), (0, 0)]

/-- Part 2: column 0 of chunk 0. -/
theorem runs_part2 {Q : _ → sProp 𝕄} (n v13 p q l) (h0 : k0_pay6 n p q l = col A c (0, 0)) :
    gates A c ([]) ⊢ iprop((gates A c ((0, 0) :: []) -∗ Q ⟨k0_pay3 p q l, k0_pay4 p q l, k0_pay5 p q l, k0_pay7 n p q l, k0_pay8 q, k0_pay9 n⟩)
      -∗ runs c (bp2 c n v13 p q l) Q) := by
  simp only [bp2, withBufs, k0_part2_eq_skeleton]
  unfold k0_part2_skel
  simp only [Prog.lift, Prog.bind_op, Prog.bind_ret, Prog.pure_eq_ret, Prog.bind_assoc]
  iintro G HQ
  iapply (put_gate A c (0, 0) (by decide) (at3 c).1 h0) $$ G; iintro G
  iapply (runs_ret c)
  iapply HQ $$ G

/-- Part 3: columns 1 and 2 of chunk 0; column 3 computed. -/
theorem runs_part3 {Q : _ → sProp 𝕄} (n v13 q a b s v76 v77 v78) (h1 : k0_pay10 b s v76 v77 v78 = col A c (0, 1)) (h2 : k0_pay11 n q a b s = col A c (0, 2)) :
    gates A c ((0, 0) :: []) ⊢ iprop((gates A c ((0, 2) :: (0, 1) :: (0, 0) :: []) -∗ Q (k0_pay12 n q a b s))
      -∗ runs c (bp3 c n v13 q a b s v76 v77 v78) Q) := by
  simp only [bp3, withBufs, k0_part3_eq_skeleton]
  unfold k0_part3_skel
  simp only [Prog.lift, Prog.bind_op, Prog.bind_ret, Prog.pure_eq_ret, Prog.bind_assoc]
  iintro G HQ
  iapply (put_gate A c (0, 1) (by decide) (at3 c).2.1 h1) $$ G; iintro G
  iapply (put_gate A c (0, 2) (by decide) (at3 c).2.2.1 h2) $$ G; iintro G
  iapply (load_any (ι := Fin 4 × Fin 4) _ _ _ _ _ _ _) $$ G; iintro %_ G
  iapply (runs_ret c)
  iapply HQ $$ G

/-- Part 6: chunk 1 is loaded. -/
theorem runs_part6 {Q : _ → sProp 𝕄} (n w) :
    inX A c ⊢ iprop(inR A c -∗ inI A c -∗ (inX A c -∗ inR A c -∗ inI A c -∗ Q ⟨k0_pay21 (is A c 1), k0_pay22 (xs A c 1) (rs A c) (is A c 1), k0_pay23 (xs A c 1) (rs A c) (is A c 1), k0_pay24 (xs A c 1) (rs A c) (is A c 1),
          k0_pay25 n (xs A c 1) (rs A c) (is A c 1), k0_pay26 n (is A c 1)⟩)
      -∗ runs c (bp6 c n w) Q) := by
  simp only [bp6, withBufs, k0_part6_eq_skeleton]
  unfold k0_part6_skel
  simp only [Prog.lift, Prog.bind_op, Prog.bind_ret, Prog.pure_eq_ret, Prog.bind_assoc]
  iintro X R I HQ
  iapply (load_x A c 1 (at8 c).1) $$ X; iintro X
  iapply (load_r A c) $$ R; iintro R
  iapply (load_i A c 1 (at9 c).1) $$ I; iintro I
  iapply (runs_ret c)
  iapply HQ $$ X R I

/-- Part 7: columns 0 and 1 of chunk 1; column 2 computed. -/
theorem runs_part7 {Q : _ → sProp 𝕄} (n w q a b s v233 v236) (h0 : k0_pay27 b s v233 v236 = col A c (1, 0)) (h1 : k0_pay28 n q a b s = col A c (1, 1)) :
    gates A c ((colsTo 1)) ⊢ iprop((gates A c ((1, 1) :: (1, 0) :: (colsTo 1)) -∗ Q (k0_pay29 n q a b s))
      -∗ runs c (bp7 c n w q a b s v233 v236) Q) := by
  simp only [bp7, withBufs, k0_part7_eq_skeleton]
  unfold k0_part7_skel
  simp only [Prog.lift, Prog.bind_op, Prog.bind_ret, Prog.pure_eq_ret, Prog.bind_assoc]
  iintro G HQ
  iapply (put_gate A c (1, 0) (by decide) (at10 c).1 h0) $$ G; iintro G
  iapply (put_gate A c (1, 1) (by decide) (at11 c).1 h1) $$ G; iintro G
  iapply (load_any (ι := Fin 4 × Fin 4) _ _ _ _ _ _ _) $$ G; iintro %_ G
  iapply (runs_ret c)
  iapply HQ $$ G

/-- Part 8: columns 2 and 3 of chunk 1; chunk 2 is loaded. -/
theorem runs_part8 {Q : _ → sProp 𝕄} (n w q a b s u) (h2 : u = col A c (1, 2)) (h3 : k0_pay30 n q a b s = col A c (1, 3)) :
    gates A c ((1, 1) :: (1, 0) :: (colsTo 1)) ⊢ iprop(inX A c -∗ inR A c -∗ inI A c -∗ (gates A c ((colsTo 2)) -∗ inX A c -∗ inR A c -∗ inI A c -∗ Q ⟨Scalar.muli (Scalar.remsi (Scalar.addi n 2#32) 4#32) 256#32, k0_pay31 (xs A c 2) (rs A c), k0_pay32 (is A c 2), iota .tc S256x16 32 [1] iota_S256x16_d1_w32, k0_pay33 (is A c 2)⟩)
      -∗ runs c (bp8 c n w q a b s u) Q) := by
  simp only [bp8, withBufs, k0_part8_eq_skeleton]
  unfold k0_part8_skel
  simp only [Prog.lift, Prog.bind_op, Prog.bind_ret, Prog.pure_eq_ret, Prog.bind_assoc]
  iintro G X R I HQ
  iapply (store_rect (ι := Fin 4 × Fin 4) _ _ _ _ _ _ _ (gates_disjoint c) (1, 2) (by decide) (at12 c).1 h2) $$ G; iintro G
  iapply (put_gate A c (1, 3) (by decide) (at13 c).1 h3) $$ G; iintro G
  iapply (load_x A c 2 (at8 c).2.1) $$ X; iintro X
  iapply (load_r A c) $$ R; iintro R
  iapply (load_i A c 2 (at9 c).2.1) $$ I; iintro I
  iapply (runs_ret c)
  iapply HQ $$ G X R I

/-- Part 9: column 0 of chunk 2. -/
theorem runs_part9 {Q : _ → sProp 𝕄} (n w p q l d) (h0 : k0_pay37 n p q l d = col A c (2, 0)) :
    gates A c ((colsTo 2)) ⊢ iprop((gates A c ((2, 0) :: (colsTo 2)) -∗ Q ⟨k0_pay34 p l d, k0_pay35 p q l, k0_pay36 p q l d, k0_pay38 n p q l d, k0_pay39 n q, k0_pay40 p q l d⟩)
      -∗ runs c (bp9 c n w p q l d) Q) := by
  simp only [bp9, withBufs, k0_part9_eq_skeleton]
  unfold k0_part9_skel
  simp only [Prog.lift, Prog.bind_op, Prog.bind_ret, Prog.pure_eq_ret, Prog.bind_assoc]
  iintro G HQ
  iapply (put_gate A c (2, 0) (by decide) (at10 c).2.1 h0) $$ G; iintro G
  iapply (runs_ret c)
  iapply HQ $$ G

/-- Part 10: columns 1, 2 and 3 of chunk 2. -/
theorem runs_part10 {Q : _ → sProp 𝕄} (n w q a b s v367 v370 v371) (h1 : k0_pay41 v367 v370 v371 = col A c (2, 1)) (h2 : k0_pay42 n q a b s = col A c (2, 2)) (h3 : k0_pay43 n q a b s = col A c (2, 3)) :
    gates A c ((2, 0) :: (colsTo 2)) ⊢ iprop((gates A c ((colsTo 3)) -∗ Q ⟨⟩)
      -∗ runs c (bp10 c n w q a b s v367 v370 v371) Q) := by
  simp only [bp10, withBufs, k0_part10_eq_skeleton]
  unfold k0_part10_skel
  simp only [Prog.lift, Prog.bind_op, Prog.bind_ret, Prog.pure_eq_ret, Prog.bind_assoc]
  iintro G HQ
  iapply (put_gate A c (2, 1) (by decide) (at11 c).2.1 h1) $$ G; iintro G
  iapply (put_gate A c (2, 2) (by decide) (at12 c).2.1 h2) $$ G; iintro G
  iapply (put_gate A c (2, 3) (by decide) (at13 c).2.1 h3) $$ G; iintro G
  iapply (runs_ret c)
  iapply HQ $$ G

/-- Part 11: chunk 3 is loaded. -/
theorem runs_part11 {Q : _ → sProp 𝕄} (n) :
    inX A c ⊢ iprop(inR A c -∗ inI A c -∗ (inX A c -∗ inR A c -∗ inI A c -∗ Q ⟨Scalar.muli (Scalar.remsi (Scalar.addi n 3#32) 4#32) 256#32, k0_pay45 (is A c 3), k0_pay46 (xs A c 3) (rs A c) (is A c 3), k0_pay47 (xs A c 3) (rs A c) (is A c 3), k0_pay48 (xs A c 3) (rs A c) (is A c 3),
          Scalar.addi (Scalar.muli n 4#32) 0#32, k0_pay49 (is A c 3), k0_pay50 n⟩)
      -∗ runs c (bp11 c n) Q) := by
  simp only [bp11, withBufs, k0_part11_eq_skeleton]
  unfold k0_part11_skel
  simp only [Prog.lift, Prog.bind_op, Prog.bind_ret, Prog.pure_eq_ret, Prog.bind_assoc]
  iintro X R I HQ
  iapply (load_x A c 3 (at8 c).2.2) $$ X; iintro X
  iapply (load_r A c) $$ R; iintro R
  iapply (load_i A c 3 (at9 c).2.2) $$ I; iintro I
  iapply (runs_ret c)
  iapply HQ $$ X R I

/-- Part 12: columns 0 and 1 of chunk 3. -/
theorem runs_part12 {Q : _ → sProp 𝕄} (n w q a b s v457 v458 v459) (h0 : k0_pay51 q a b s v457 v458 v459 = col A c (3, 0)) (h1 : k0_pay52 n q a b s = col A c (3, 1)) :
    gates A c ((colsTo 3)) ⊢ iprop((gates A c ((3, 1) :: (3, 0) :: (colsTo 3)) -∗ Q ⟨k0_pay53 n q a s, k0_pay54 n q, k0_pay55 b s, FloatOps.ofBits .f32 0⟩)
      -∗ runs c (bp12 c n w q a b s v457 v458 v459) Q) := by
  simp only [bp12, withBufs, k0_part12_eq_skeleton]
  unfold k0_part12_skel
  simp only [Prog.lift, Prog.bind_op, Prog.bind_ret, Prog.pure_eq_ret, Prog.bind_assoc]
  iintro G HQ
  iapply (put_gate A c (3, 0) (by decide) (at10 c).2.2 h0) $$ G; iintro G
  iapply (put_gate A c (3, 1) (by decide) (at11 c).2.2 h1) $$ G; iintro G
  iapply (runs_ret c)
  iapply HQ $$ G

/-- Part 13: columns 2 and 3 of chunk 3; its tokens and gates are loaded. -/
theorem runs_part13 {Q : _ → sProp 𝕄} (n w q a b s v501 v504 v505 z) (h2 : k0_pay56 v501 v504 v505 z = col A c (3, 2)) (h3 : k0_pay57 n q a b s = col A c (3, 3)) :
    gates A c ((3, 1) :: (3, 0) :: (colsTo 3)) ⊢ iprop(inX A c -∗ (gates A c (colsTo 4) -∗ inX A c -∗ Q ⟨k0_pay58 (xs A c 3), ws A c 3, k0_pay59 (xs A c 3) (ws A c 3), k0_pay60 (xs A c 3) (ws A c 3), k0_pay61 (xs A c 3) (ws A c 3)⟩)
      -∗ runs c (bp13 c n w q a b s v501 v504 v505 z) Q) := by
  simp only [bp13, withBufs, k0_part13_eq_skeleton]
  unfold k0_part13_skel
  simp only [Prog.lift, Prog.bind_op, Prog.bind_ret, Prog.pure_eq_ret, Prog.bind_assoc]
  iintro G X HQ
  iapply (put_gate A c (3, 2) (by decide) (at12 c).2.2 h2) $$ G; iintro G
  iapply (put_gate A c (3, 3) (by decide) (at13 c).2.2 h3) $$ G; iintro G
  iapply (load_x A c 3 (at8 c).2.2) $$ X; iintro X
  iapply (load_gates A c _ 3 (by decide) (at14 c).2.2) $$ G; iintro G
  iapply (runs_ret c)
  iapply HQ $$ G X

/-- Part 14: the partial products of chunk 3, first half, and chunk 1, second half. -/
theorem runs_part14 {Q : _ → sProp 𝕄} (n v7 v130 v132 v537 v540 v544 v548 v551) :
    gates A c (colsTo 4) ⊢ iprop(inX A c -∗ (gates A c (colsTo 4) -∗ inX A c -∗ Q ⟨k0_pay62 v130 v537 v540 v544 v548 v551, k0_pay63 v132 (xs A c 1) (ws A c 1)⟩)
      -∗ runs c (bp14 c n v7 v130 v132 v537 v540 v544 v548 v551) Q) := by
  simp only [bp14, withBufs, k0_part14_eq_skeleton]
  unfold k0_part14_skel
  simp only [Prog.lift, Prog.bind_op, Prog.bind_ret, Prog.pure_eq_ret, Prog.bind_assoc]
  iintro G X HQ
  iapply (load_x A c 1 (at8 c).1) $$ X; iintro X
  iapply (load_gates A c _ 1 (by decide) (at14 c).1) $$ G; iintro G
  iapply (runs_ret c)
  iapply HQ $$ G X

end Cert.Ring
-- ==== Proof.BodyB.lean ====
/-
The body's second half: the twelve copies, each part proved once on the blocks it touches (parts 4, 5 and 14 to 31).

A block goes through these states: free; loaded with what copy `t` sends (`laden t`); lent to the copy until its
departure is waited for; and, on the device the copy goes to, received (`got t`).
-/
module

public import proofs.«01_k».proof.Proof.BodyA

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Opnds F) (c : Dev nD) (K : CellKey → ℕ)

/-- The block copy `t` is about to send, and the block it has delivered to device `c`. -/
abbrev laden (t : Fin 12) : sProp 𝕄 := holds (srcM t) (shr t) c (sent A t c)
abbrev got (t : Fin 12) : sProp 𝕄 := holds (dstM t) fullShare c (sent A t (orig t c))
/-- What every step of the protocol may use: the cells' invariants and the order of waiting. -/
abbrev rec : sProp 𝕄 := records (sent A) K

theorem holds_of {M : Memref sig .tc .vmem S256x512 .bf16} {q : PosShare TreeShare} {w : Blk F} (w' : Blk F) (h : w = w') : holds M q c w ⊢ holds M q c w' := by
  subst h; exact .rfl

/-- A block with the right contents is what copy `t` sends. -/
theorem laden_of (t : Fin 12) {M : Memref sig .tc .vmem S256x512 .bf16} {q : PosShare TreeShare} {w : Blk F}
    (hM : M = srcM t) (hq : q = shr t) (hw : w = sent A t c) : holds M q c w ⊢ laden A c t := by subst hM hq hw; exact .rfl

/-- Part 4: column 3 of chunk 0; its partial product's first half is made ready for copy 0. -/
theorem runs_part4 {Q : _ → sProp 𝕄} (n u) (h3 : k0_pay13 u = col A c (0, 3)) :
    gates A c [(0, 2), (0, 1), (0, 0)] ⊢ iprop(inE A c -∗ inX A c -∗ free (blkS 0 0) c -∗ (gates A c (colsTo 1) -∗ inE A c -∗ inX A c -∗ laden A c 0 -∗ Q ⟨k0_pay15 (es A c), k0_pay16 (es A c), k0_pay17 (xs A c 0) (ws A c 0), 1#32⟩)
      -∗ runs c (bp4 c n u) Q) := by
  simp only [bp4, withBufs, k0_part4_eq_skeleton]
  unfold k0_part4_skel
  simp only [Prog.lift, Prog.bind_op, Prog.bind_ret, Prog.pure_eq_ret, Prog.bind_assoc]
  iintro G E X B HQ
  iapply (store_rect (ι := Fin 4 × Fin 4) _ _ _ _ _ _ _ (gates_disjoint c) (0, 3) (by decide) (at3 c).2.2.2 h3) $$ G; iintro G
  iapply (load_e A c) $$ E; iintro E
  iapply (load_x A c 0 (at1 c)) $$ X; iintro X
  iapply (load_gates A c _ 0 (by decide) (at7 c)) $$ G; iintro G
  iapply (put_block c n4 rfl) $$ B; iintro B
  ihave B := (laden_of A c 0 (by rfl) (by rfl) (by rfl)) $$ B
  iapply (runs_ret c)
  iapply HQ $$ G E X B

/-- Part 5: copies 0 and 1 start. -/
theorem runs_part5 {Q : _ → sProp 𝕄} (n v5 v7 u v w) (h : gather n4 (k0_pay19 u v) = sent A 1 c) :
    rec A K ⊢ iprop(debt c (owe c 0) -∗ ticket 0 c -∗ laden A c 0 -∗ ticket 1 c -∗ free (blkS 1 0) c -∗ (debt c (owe c 2) -∗ due (false, 0) c -∗ due (false, 1) c -∗ Q (Scalar.muli (Scalar.remsi (Scalar.addi n 1#32) 4#32) 256#32))
      -∗ runs c (bp5 c n v5 v7 u v w) Q) := by
  simp only [bp5, withBufs, k0_part5_eq_skeleton]
  unfold k0_part5_skel
  simp only [Prog.lift, Prog.bind_op, Prog.bind_ret, Prog.pure_eq_ret, Prog.bind_assoc]
  iintro #HR HO T0 B0 T1 B1 HQ
  iapply (start_copy (sent A) K c 0 0 rfl (Fin.ext (k0_dev3_eq c)) rfl rfl rfl rfl) $$ HR HO T0 B0; iintro HO S0
  iapply (put_block c n4 rfl) $$ B1; iintro B1
  ihave B1 := (laden_of A c 1 (by rfl) (by rfl) h) $$ B1
  iapply (start_copy (sent A) K c 1 1 rfl (Fin.ext (k0_dev4_eq c)) rfl rfl rfl rfl) $$ HR HO T1 B1; iintro HO S1
  iapply (runs_ret c)
  iapply HQ $$ HO S0 S1

/-- Part 15: copy 0 arrives; its block and the own partial product make copy 2's, which starts. -/
theorem runs_part15 {Q : _ → sProp 𝕄} (v5 v7) :
    rec A K ⊢ iprop(levAts L lv -∗ debt c (owe c 2) -∗ due (true, 0) c -∗ free (blkS 0 1) c -∗ ticket 2 c -∗ (debt c (owe c 3) -∗ got A c 0 -∗ semVal (recvCell 0 c) 0 -∗ due (false, 2) c -∗ Q ⟨⟩)
      -∗ runs c (bp15 c v5 v7 (part0 A c 3)) Q) := by
  simp only [bp15, withBufs, k0_part15_eq_skeleton]
  unfold k0_part15_skel
  simp only [Prog.lift, Prog.bind_op, Prog.bind_ret, Prog.pure_eq_ret, Prog.bind_assoc]
  iintro #HR #LV HO R0 B2 T2 HQ
  iapply (await_arrival (sent A) K c 0 2 (by decide) rfl) $$ HR LV HO R0; iintro HO B0 Z0
  iapply (load_block c _ _ n4 rfl) $$ B0; iintro B0
  iapply (put_block c n4 rfl) $$ B2; iintro B2
  ihave B2 := (laden_of A c 2 (by rfl) (by rfl) (by rfl)) $$ B2
  iapply (start_copy (sent A) K c 2 2 rfl (Fin.ext (k0_dev5_eq c)) rfl rfl rfl rfl) $$ HR HO T2 B2; iintro HO S2
  iapply (runs_ret c)
  iapply HQ $$ HO B0 Z0 S2

/-- Part 16: the same the other way round: copy 1 arrives, copy 3 starts. -/
theorem runs_part16 {Q : _ → sProp 𝕄} (n v5) :
    rec A K ⊢ iprop(levAts L lv -∗ debt c (owe c 3) -∗ due (true, 1) c -∗ free (blkS 1 1) c -∗ ticket 3 c -∗ (debt c (owe c 4) -∗ got A c 1 -∗ semVal (recvCell 1 c) 0 -∗ due (false, 3) c -∗ Q (Scalar.remsi (Scalar.addi n 2#32) 4#32))
      -∗ runs c (bp16 c n v5 (part1 A c 1)) Q) := by
  simp only [bp16, withBufs, k0_part16_eq_skeleton]
  unfold k0_part16_skel
  simp only [Prog.lift, Prog.bind_op, Prog.bind_ret, Prog.pure_eq_ret, Prog.bind_assoc]
  iintro #HR #LV HO R1 B3 T3 HQ
  iapply (await_arrival (sent A) K c 1 3 (by decide) rfl) $$ HR LV HO R1; iintro HO B1 Z1
  iapply (load_block c _ _ n4 rfl) $$ B1; iintro B1
  iapply (put_block c n4 rfl) $$ B3; iintro B3
  ihave B3 := (laden_of A c 3 (by rfl) (by rfl) (by rfl)) $$ B3
  iapply (start_copy (sent A) K c 3 3 rfl (Fin.ext (k0_dev6_eq c)) rfl rfl rfl rfl) $$ HR HO T3 B3; iintro HO S3
  iapply (runs_ret c)
  iapply HQ $$ HO B1 Z1 S3

/-- Part 17: the partial products of chunk 2. -/
theorem runs_part17 {Q : _ → sProp 𝕄} (n u v w) :
    gates A c (colsTo 4) ⊢ iprop(inX A c -∗ (gates A c (colsTo 4) -∗ inX A c -∗ Q ⟨k0_pay66 u (xs A c 2) (ws A c 2), k0_pay67 v (xs A c 2) (ws A c 2)⟩)
      -∗ runs c (bp17 c n u v w) Q) := by
  simp only [bp17, withBufs, k0_part17_eq_skeleton]
  unfold k0_part17_skel
  simp only [Prog.lift, Prog.bind_op, Prog.bind_ret, Prog.pure_eq_ret, Prog.bind_assoc]
  iintro G X HQ
  iapply (load_x A c 2 (at8 c).2.1) $$ X; iintro X
  iapply (load_gates A c _ 2 (by decide) (at14 c).2.1) $$ G; iintro G
  iapply (load_x A c 2 (at8 c).2.1) $$ X; iintro X
  iapply (load_gates A c _ 2 (by decide) (at14 c).2.1) $$ G; iintro G
  iapply (runs_ret c)
  iapply HQ $$ G X

/-- Part 18: copy 2 arrives and makes copy 4's block. -/
theorem runs_part18 {Q : _ → sProp 𝕄} (v7) :
    rec A K ⊢ iprop(levAts L lv -∗ debt c (owe c 4) -∗ due (true, 2) c -∗ free (blkS 0 2) c -∗ (debt c (owe c 4) -∗ got A c 2 -∗ semVal (recvCell 2 c) 0 -∗ laden A c 4 -∗ Q ⟨⟩)
      -∗ runs c (bp18 v7 (part0 A c 2)) Q) := by
  simp only [bp18, withBufs, k0_part18_eq_skeleton]
  unfold k0_part18_skel
  simp only [Prog.lift, Prog.bind_op, Prog.bind_ret, Prog.pure_eq_ret, Prog.bind_assoc]
  iintro #HR #LV HO R2 B4 HQ
  iapply (await_arrival (sent A) K c 2 4 (by decide) rfl) $$ HR LV HO R2; iintro HO B2 Z2
  iapply (load_block c _ _ n4 rfl) $$ B2; iintro B2
  iapply (put_block c n4 rfl) $$ B4; iintro B4
  ihave B4 := (laden_of A c 4 (by rfl) (by rfl) (by rfl)) $$ B4
  iapply (runs_ret c)
  iapply HQ $$ HO B2 Z2 B4

/-- Part 19: copy 4 starts; copy 3 arrives and makes copy 5's block. -/
theorem runs_part19 {Q : _ → sProp 𝕄} (v5) :
    rec A K ⊢ iprop(levAts L lv -∗ debt c (owe c 4) -∗ ticket 4 c -∗ laden A c 4 -∗ due (true, 3) c -∗ free (blkS 1 2) c -∗ (debt c (owe c 5) -∗ due (false, 4) c -∗ got A c 3 -∗ semVal (recvCell 3 c) 0 -∗ laden A c 5 -∗ Q ⟨⟩)
      -∗ runs c (bp19 c v5 (part1 A c 2)) Q) := by
  simp only [bp19, withBufs, k0_part19_eq_skeleton]
  unfold k0_part19_skel
  simp only [Prog.lift, Prog.bind_op, Prog.bind_ret, Prog.pure_eq_ret, Prog.bind_assoc]
  iintro #HR #LV HO T4 B4 R3 B5 HQ
  iapply (start_copy (sent A) K c 4 4 rfl (Fin.ext (k0_dev7_eq c)) rfl rfl rfl rfl) $$ HR HO T4 B4; iintro HO S4
  iapply (await_arrival (sent A) K c 3 5 (by decide) rfl) $$ HR LV HO R3; iintro HO B3 Z3
  iapply (load_block c _ _ n4 rfl) $$ B3; iintro B3
  iapply (put_block c n4 rfl) $$ B5; iintro B5
  ihave B5 := (laden_of A c 5 (by rfl) (by rfl) (by rfl)) $$ B5
  iapply (runs_ret c)
  iapply HQ $$ HO S4 B3 Z3 B5

/-- Part 20: copy 5 starts; the last partial products. -/
theorem runs_part20 {Q : _ → sProp 𝕄} (n u) :
    rec A K ⊢ iprop(debt c (owe c 5) -∗ ticket 5 c -∗ laden A c 5 -∗ gates A c (colsTo 4) -∗ inX A c -∗ (debt c (owe c 6) -∗ due (false, 5) c -∗ gates A c (colsTo 4) -∗ inX A c -∗ Q ⟨k0_pay70 u (xs A c 1) (ws A c 1), k0_pay71 (xs A c 3), ws A c 3, k0_pay72 (ws A c 3)⟩)
      -∗ runs c (bp20 c n u) Q) := by
  simp only [bp20, withBufs, k0_part20_eq_skeleton]
  unfold k0_part20_skel
  simp only [Prog.lift, Prog.bind_op, Prog.bind_ret, Prog.pure_eq_ret, Prog.bind_assoc]
  iintro #HR HO T5 B5 G X HQ
  iapply (start_copy (sent A) K c 5 5 rfl (Fin.ext (k0_dev8_eq c)) rfl rfl rfl rfl) $$ HR HO T5 B5; iintro HO S5
  iapply (load_x A c 1 (at8 c).1) $$ X; iintro X
  iapply (load_gates A c _ 1 (by decide) (at14 c).1) $$ G; iintro G
  iapply (load_x A c 3 (at8 c).2.2) $$ X; iintro X
  iapply (load_gates A c _ 3 (by decide) (at14 c).2.2) $$ G; iintro G
  iapply (runs_ret c)
  iapply HQ $$ HO S5 G X

/-- Part 21: copy 4 arrives; the first half of chunk 1 is finished. -/
theorem runs_part21 {Q : _ → sProp 𝕄} (v7 v132 v776 v779 v780) :
    rec A K ⊢ iprop(levAts L lv -∗ debt c (owe c 6) -∗ due (true, 4) c -∗ free (blkO 0) c -∗ (debt c (owe c 6) -∗ got A c 4 -∗ semVal (recvCell 4 c) 0 -∗ holds (blkO 0) fullShare c (oA A c) -∗ Q ⟨k0_pay73 v132 v776 v779 v780, k0_pay74 (part0 A c 1) (spread n4 (sent A 4 (orig 4 c)))⟩)
      -∗ runs c (bp21 v7 v132 (part0 A c 1) v776 v779 v780) Q) := by
  simp only [bp21, withBufs, k0_part21_eq_skeleton]
  unfold k0_part21_skel
  simp only [Prog.lift, Prog.bind_op, Prog.bind_ret, Prog.pure_eq_ret, Prog.bind_assoc]
  iintro #HR #LV HO R4 B HQ
  iapply (await_arrival (sent A) K c 4 6 (by decide) rfl) $$ HR LV HO R4; iintro HO B4 Z4
  iapply (load_block c _ _ n4 rfl) $$ B4; iintro B4
  iapply (put_block c n3 rfl) $$ B; iintro B
  ihave B := (holds_of c (oA A c) (by rfl)) $$ B
  iapply (runs_ret c)
  iapply HQ $$ HO B4 Z4 B

/-- Part 22: it goes to both neighbours (copies 6 and 7) and into the result. -/
theorem runs_part22 {Q : _ → sProp 𝕄} (n v5 v7 u) (h : k0_pay76 u = ob A c (1, 0)) :
    rec A K ⊢ iprop(debt c (owe c 6) -∗ holds (blkO 0) fullShare c (oA A c) -∗ ticket 6 c -∗ ticket 7 c -∗ result A c [] -∗ (debt c (owe c 8) -∗ due (false, 6) c -∗ due (false, 7) c -∗ result A c [(1, 0)] -∗ Q ⟨⟩)
      -∗ runs c (bp22 c n v5 v7 u) Q) := by
  simp only [bp22, withBufs, k0_part22_eq_skeleton]
  unfold k0_part22_skel
  simp only [Prog.lift, Prog.bind_op, Prog.bind_ret, Prog.pure_eq_ret, Prog.bind_assoc]
  iintro #HR HO B T6 T7 Y HQ
  ihave B' := (holds_halves (blkO 0) c (oA A c)) $$ B
  icases B' with ⟨B6, B7⟩
  ihave B6 := (laden_of A c 6 (by rfl) (by rfl) (by rfl)) $$ B6
  ihave B7 := (laden_of A c 7 (by rfl) (by rfl) (by rfl)) $$ B7
  iapply (start_copy (sent A) K c 6 6 rfl (Fin.ext (k0_dev9_eq c)) rfl rfl rfl rfl) $$ HR HO T6 B6; iintro HO S6
  iapply (start_copy (sent A) K c 7 7 rfl (Fin.ext (k0_dev10_eq c)) rfl rfl rfl rfl) $$ HR HO T7 B7; iintro HO S7
  iapply (put_result A c (1, 0) (by decide) (at15 c).2.1 h) $$ Y; iintro Y
  iapply (runs_ret c)
  iapply HQ $$ HO S6 S7 Y

/-- Part 23: copy 5 arrives; the second half of chunk 3 is finished and goes to the right (copy 8). -/
theorem runs_part23 {Q : _ → sProp 𝕄} (v5 v7) :
    rec A K ⊢ iprop(levAts L lv -∗ debt c (owe c 8) -∗ due (true, 5) c -∗ free (blkO 1) c -∗ ticket 8 c -∗ (debt c (owe c 9) -∗ got A c 5 -∗ semVal (recvCell 5 c) 0 -∗ due (false, 8) c -∗ laden A c 9 -∗ Q (k0_pay77 (part1 A c 3) (spread n4 (sent A 5 (orig 5 c)))))
      -∗ runs c (bp23 c v5 v7 (part1 A c 3)) Q) := by
  simp only [bp23, withBufs, k0_part23_eq_skeleton]
  unfold k0_part23_skel
  simp only [Prog.lift, Prog.bind_op, Prog.bind_ret, Prog.pure_eq_ret, Prog.bind_assoc]
  iintro #HR #LV HO R5 B T8 HQ
  iapply (await_arrival (sent A) K c 5 8 (by decide) rfl) $$ HR LV HO R5; iintro HO B5 Z5
  iapply (load_block c _ _ n4 rfl) $$ B5; iintro B5
  iapply (put_block c n3 rfl) $$ B; iintro B
  ihave B' := (holds_halves (blkO 1) c _) $$ B
  icases B' with ⟨B8, B9⟩
  ihave B8 := (laden_of A c 8 (by rfl) (by rfl) (by rfl)) $$ B8
  ihave B9 := (laden_of A c 9 (by rfl) (by rfl) (by rfl)) $$ B9
  iapply (start_copy (sent A) K c 8 8 rfl (Fin.ext (k0_dev11_eq c)) rfl rfl rfl rfl) $$ HR HO T8 B8; iintro HO S8
  iapply (runs_ret c)
  iapply HQ $$ HO B5 Z5 S8 B9

/-- Part 24: and to the left (copy 9); copy 6 arrives. -/
theorem runs_part24 {Q : _ → sProp 𝕄} (n v5 v7 u) (h : k0_pay79 u = ob A c (3, 1)) :
    rec A K ⊢ iprop(levAts L lv -∗ debt c (owe c 9) -∗ ticket 9 c -∗ laden A c 9 -∗ result A c [(1, 0)] -∗ due (true, 6) c -∗ (debt c (owe c 10) -∗ due (false, 9) c -∗ result A c [(3, 1), (1, 0)] -∗ got A c 6 -∗ semVal (recvCell 6 c) 0 -∗ Q ⟨⟩)
      -∗ runs c (bp24 c n v5 v7 u) Q) := by
  simp only [bp24, withBufs, k0_part24_eq_skeleton]
  unfold k0_part24_skel
  simp only [Prog.lift, Prog.bind_op, Prog.bind_ret, Prog.pure_eq_ret, Prog.bind_assoc]
  iintro #HR #LV HO T9 B9 Y R6 HQ
  iapply (start_copy (sent A) K c 9 9 rfl (Fin.ext (k0_dev12_eq c)) rfl rfl rfl rfl) $$ HR HO T9 B9; iintro HO S9
  iapply (put_result A c (3, 1) (by decide) (at16 c).2.2.2 h) $$ Y; iintro Y
  iapply (await_arrival (sent A) K c 6 10 (by decide) rfl) $$ HR LV HO R6; iintro HO B6 Z6
  iapply (runs_ret c)
  iapply HQ $$ HO S9 Y B6 Z6

/-- Part 25: copy 6's block is passed on (copy 10), half of it kept for reading; copy 9 arrives. -/
theorem runs_part25 {Q : _ → sProp 𝕄} (v5 v7) :
    rec A K ⊢ iprop(levAts L lv -∗ debt c (owe c 10) -∗ ticket 10 c -∗ got A c 6 -∗ due (true, 9) c -∗ (debt c (owe c 11) -∗ due (false, 10) c -∗ holds (dstM 6) fullShare.right c (sent A 6 (orig 6 c)) -∗ got A c 9 -∗ semVal (recvCell 9 c) 0 -∗ Q ⟨⟩)
      -∗ runs c (bp25 c v5 v7) Q) := by
  simp only [bp25, withBufs, k0_part25_eq_skeleton]
  unfold k0_part25_skel
  simp only [Prog.lift, Prog.bind_op, Prog.bind_ret, Prog.pure_eq_ret, Prog.bind_assoc]
  iintro #HR #LV HO T10 B6 R9 HQ
  ihave B' := (holds_halves (dstM 6) c _) $$ B6
  icases B' with ⟨B10, C6⟩
  ihave B10 := (laden_of A c 10 (by rfl) (by rfl) (by rfl)) $$ B10
  iapply (start_copy (sent A) K c 10 10 rfl (Fin.ext (k0_dev13_eq c)) rfl rfl rfl rfl) $$ HR HO T10 B10; iintro HO S10
  iapply (await_arrival (sent A) K c 9 11 (by decide) rfl) $$ HR LV HO R9; iintro HO B9 Z9
  iapply (runs_ret c)
  iapply HQ $$ HO S10 C6 B9 Z9

/-- Part 26: copy 9's block is passed on (copy 11); copy 7 arrives; two blocks of the result. -/
theorem runs_part26 {Q : _ → sProp 𝕄} (n v5) :
    rec A K ⊢ iprop(levAts L lv -∗ debt c (owe c 11) -∗ ticket 11 c -∗ got A c 9 -∗ due (true, 7) c -∗ holds (dstM 6) fullShare.right c (sent A 6 (orig 6 c)) -∗ result A c [(3, 1), (1, 0)] -∗ (debt c (owe c 12) -∗ due (false, 11) c -∗ holds (dstM 9) fullShare.right c (sent A 9 (orig 9 c)) -∗ got A c 7 -∗ semVal (recvCell 7 c) 0 -∗ holds (dstM 6) fullShare.right c (sent A 6 (orig 6 c)) -∗ result A c [(2, 0), (0, 0), (3, 1), (1, 0)] -∗ Q ⟨⟩)
      -∗ runs c (bp26 c n v5) Q) := by
  simp only [bp26, withBufs, k0_part26_eq_skeleton]
  unfold k0_part26_skel
  simp only [Prog.lift, Prog.bind_op, Prog.bind_ret, Prog.pure_eq_ret, Prog.bind_assoc]
  iintro #HR #LV HO T11 B9 R7 C6 Y HQ
  ihave B' := (holds_halves (dstM 9) c _) $$ B9
  icases B' with ⟨B11, C9⟩
  ihave B11 := (laden_of A c 11 (by rfl) (by rfl) (by rfl)) $$ B11
  iapply (start_copy (sent A) K c 11 11 rfl (Fin.ext (k0_dev14_eq c)) rfl rfl rfl rfl) $$ HR HO T11 B11; iintro HO S11
  iapply (await_arrival (sent A) K c 7 12 (by decide) rfl) $$ HR LV HO R7; iintro HO B7 Z7
  iapply (load_block c _ _ n4 rfl) $$ C6; iintro C6
  iapply (put_result A c (0, 0) (by decide) (at15 c).1 rfl) $$ Y; iintro Y
  iapply (load_block c _ _ n4 rfl) $$ B7; iintro B7
  iapply (put_result A c (2, 0) (by decide) (at15 c).2.2.1 rfl) $$ Y; iintro Y
  iapply (runs_ret c)
  iapply HQ $$ HO S11 C9 B7 Z7 C6 Y

/-- Part 27: copy 8 arrives; two more blocks of the result. -/
theorem runs_part27 {Q : _ → sProp 𝕄} (n v7) :
    rec A K ⊢ iprop(levAts L lv -∗ debt c (owe c 12) -∗ due (true, 8) c -∗ holds (dstM 9) fullShare.right c (sent A 9 (orig 9 c)) -∗ result A c [(2, 0), (0, 0), (3, 1), (1, 0)] -∗ (debt c (owe c 12) -∗ got A c 8 -∗ semVal (recvCell 8 c) 0 -∗ holds (dstM 9) fullShare.right c (sent A 9 (orig 9 c)) -∗ result A c [(0, 1), (2, 1), (2, 0), (0, 0), (3, 1), (1, 0)] -∗ Q ⟨⟩)
      -∗ runs c (bp27 c n v7) Q) := by
  simp only [bp27, withBufs, k0_part27_eq_skeleton]
  unfold k0_part27_skel
  simp only [Prog.lift, Prog.bind_op, Prog.bind_ret, Prog.pure_eq_ret, Prog.bind_assoc]
  iintro #HR #LV HO R8 C9 Y HQ
  iapply (await_arrival (sent A) K c 8 12 (by decide) rfl) $$ HR LV HO R8; iintro HO B8 Z8
  iapply (load_block c _ _ n4 rfl) $$ B8; iintro B8
  iapply (put_result A c (2, 1) (by decide) (at16 c).2.2.1 rfl) $$ Y; iintro Y
  iapply (load_block c _ _ n4 rfl) $$ C9; iintro C9
  iapply (put_result A c (0, 1) (by decide) (at16 c).1 rfl) $$ Y; iintro Y
  iapply (runs_ret c)
  iapply HQ $$ HO B8 Z8 C9 Y

/-- Part 28: copies 10 and 11 arrive; the last two blocks of the result. -/
theorem runs_part28 {Q : _ → sProp 𝕄} (n v5) :
    rec A K ⊢ iprop(levAts L lv -∗ debt c (owe c 12) -∗ due (true, 10) c -∗ due (true, 11) c -∗ result A c [(0, 1), (2, 1), (2, 0), (0, 0), (3, 1), (1, 0)] -∗ (debt c (owe c 12) -∗ got A c 10 -∗ semVal (recvCell 10 c) 0 -∗ got A c 11 -∗ semVal (recvCell 11 c) 0 -∗ result A c [(1, 1), (3, 0), (0, 1), (2, 1), (2, 0), (0, 0), (3, 1), (1, 0)] -∗ Q ⟨⟩)
      -∗ runs c (bp28 c n v5) Q) := by
  simp only [bp28, withBufs, k0_part28_eq_skeleton]
  unfold k0_part28_skel
  simp only [Prog.lift, Prog.bind_op, Prog.bind_ret, Prog.pure_eq_ret, Prog.bind_assoc]
  iintro #HR #LV HO R10 R11 Y HQ
  iapply (await_arrival (sent A) K c 10 12 (by decide) rfl) $$ HR LV HO R10; iintro HO B10 Z10
  iapply (load_block c _ _ n3 rfl) $$ B10; iintro B10
  iapply (put_result A c (3, 0) (by decide) (at15 c).2.2.2 rfl) $$ Y; iintro Y
  iapply (await_arrival (sent A) K c 11 12 (by decide) rfl) $$ HR LV HO R11; iintro HO B11 Z11
  iapply (load_block c _ _ n3 rfl) $$ B11; iintro B11
  iapply (put_result A c (1, 1) (by decide) (at16 c).2.1 rfl) $$ Y; iintro Y
  iapply (runs_ret c)
  iapply HQ $$ HO B10 Z10 B11 Z11 Y

/-- Part 29: copies 0, 2 and 4 have left. -/
theorem runs_part29 {Q : _ → sProp 𝕄} :
    rec A K ⊢ iprop(levAts L lv -∗ debt c (owe c 12) -∗ due (false, 0) c -∗ due (false, 2) c -∗ due (false, 4) c -∗ (debt c (owe c 12) -∗ laden A c 0 -∗ semVal (sendCell 0 c) 0 -∗ laden A c 2 -∗ semVal (sendCell 2 c) 0 -∗ laden A c 4 -∗ semVal (sendCell 4 c) 0 -∗ Q ⟨⟩)
      -∗ runs c (bp29) Q) := by
  simp only [bp29, withBufs, k0_part29_eq_skeleton]
  unfold k0_part29_skel
  simp only [Prog.lift, Prog.bind_op, Prog.bind_ret, Prog.pure_eq_ret, Prog.bind_assoc]
  iintro #HR #LV HO S0 S2 S4 HQ
  iapply (await_departure (sent A) K c 0 rfl) $$ HR LV HO S0; iintro HO B0 Z0
  iapply (await_departure (sent A) K c 2 rfl) $$ HR LV HO S2; iintro HO B2 Z2
  iapply (await_departure (sent A) K c 4 rfl) $$ HR LV HO S4; iintro HO B4 Z4
  iapply (runs_ret c)
  iapply HQ $$ HO B0 Z0 B2 Z2 B4 Z4

/-- Part 30: copies 6, 7 and 10 have left. -/
theorem runs_part30 {Q : _ → sProp 𝕄} :
    rec A K ⊢ iprop(levAts L lv -∗ debt c (owe c 12) -∗ due (false, 6) c -∗ due (false, 7) c -∗ due (false, 10) c -∗ (debt c (owe c 12) -∗ laden A c 6 -∗ semVal (sendCell 6 c) 0 -∗ laden A c 7 -∗ semVal (sendCell 7 c) 0 -∗ laden A c 10 -∗ semVal (sendCell 10 c) 0 -∗ Q ⟨⟩)
      -∗ runs c (bp30) Q) := by
  simp only [bp30, withBufs, k0_part30_eq_skeleton]
  unfold k0_part30_skel
  simp only [Prog.lift, Prog.bind_op, Prog.bind_ret, Prog.pure_eq_ret, Prog.bind_assoc]
  iintro #HR #LV HO S6 S7 S10 HQ
  iapply (await_departure (sent A) K c 6 rfl) $$ HR LV HO S6; iintro HO B6 Z6
  iapply (await_departure (sent A) K c 7 rfl) $$ HR LV HO S7; iintro HO B7 Z7
  iapply (await_departure (sent A) K c 10 rfl) $$ HR LV HO S10; iintro HO B10 Z10
  iapply (runs_ret c)
  iapply HQ $$ HO B6 Z6 B7 Z7 B10 Z10

/-- Part 31: copies 1, 3 and 5 have left. -/
theorem runs_part31 {Q : _ → sProp 𝕄} :
    rec A K ⊢ iprop(levAts L lv -∗ debt c (owe c 12) -∗ due (false, 1) c -∗ due (false, 3) c -∗ due (false, 5) c -∗ (debt c (owe c 12) -∗ laden A c 1 -∗ semVal (sendCell 1 c) 0 -∗ laden A c 3 -∗ semVal (sendCell 3 c) 0 -∗ laden A c 5 -∗ semVal (sendCell 5 c) 0 -∗ Q ⟨⟩)
      -∗ runs c (bp31) Q) := by
  simp only [bp31, withBufs, k0_part31_eq_skeleton]
  unfold k0_part31_skel
  simp only [Prog.lift, Prog.bind_op, Prog.bind_ret, Prog.pure_eq_ret, Prog.bind_assoc]
  iintro #HR #LV HO S1 S3 S5 HQ
  iapply (await_departure (sent A) K c 1 rfl) $$ HR LV HO S1; iintro HO B1 Z1
  iapply (await_departure (sent A) K c 3 rfl) $$ HR LV HO S3; iintro HO B3 Z3
  iapply (await_departure (sent A) K c 5 rfl) $$ HR LV HO S5; iintro HO B5 Z5
  iapply (runs_ret c)
  iapply HQ $$ HO B1 Z1 B3 Z3 B5 Z5

end Cert.Ring
-- ==== Proof.Blocks.lean ====
/-
The five communication buffers cut into their blocks of 256 × 512, and put together again.
-/
module

public import proofs.«01_k».proof.Proof.BodyB
public import Idealize.ShloMosaic.Lib.Ring

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Cut
variable {s : Shape} {m : Memref sig .tc .vmem s .bf16} {M : Memref sig .tc .vmem S256x512 .bf16} {r : Rect s}

/-- A free block is a piece of its buffer at some contents. -/
theorem free_iff (c : Dev nD) (h : S256x512.numel = r.shape.numel) (hM : M.view = (m.access r).reshape S256x512 h) :
    free (F := F) M c ⊣⊢ iprop(∃ f : Buf (Elt F) (m.view.loc (c : Thread nD τ)), m.view.loc (c : Thread nD τ) ↦[(m.view.slice r).set]{fullShare} f) := by
  unfold free holds
  rw [hM, View.set_reshape]
  constructor
  · iintro ⟨%w, %f, -, H⟩
    iexists f; iexact H
  · iintro ⟨%f, H⟩
    iexists ((m.access r).reshape S256x512 h).read (Elt F) f, f
    isplitr; · ipureintro; rfl
    iexact H

variable {ι : Type} [Fintype ι] [DecidableEq ι] {N : ι → Memref sig .tc .vmem S256x512 .bf16} {R : ι → Rect s}
  (h : ∀ i, S256x512.numel = (R i).shape.numel) (hN : ∀ i, (N i).view = (m.access (R i)).reshape S256x512 (h i))
  (hm : m.view.set = Finset.univ)
  (hd : ∀ i j, i ≠ j → Disjoint (R i).set (R j).set) (hc : ∀ x : s.Idx, ∃ i, x ∈ (R i).set)

/-- The elements of a rectangle of `m`'s buffer. -/
abbrev piece (m : Memref sig .tc .vmem s .bf16) (r : Rect s) : Finset m.view.ty.Idx := (m.view.slice r).set

include hc hm in
theorem cover (y : m.view.ty.Idx) : ∃ i, y ∈ piece m (R i) := by
  have hy : y ∈ m.view.set := by rw [hm]; exact Finset.mem_univ y
  rw [View.set, Finset.mem_map] at hy
  obtain ⟨x, -, rfl⟩ := hy
  obtain ⟨i, hi⟩ := hc x
  refine ⟨i, ?_⟩
  rw [piece, View.set_slice]
  exact Finset.mem_map_of_mem _ hi

include hN hm hd hc in
theorem cut (c : Dev nD) (f : Buf (Elt F) (m.view.loc (c : Thread nD τ))) : bufAt m c f ⊢ bigSep Finset.univ fun i => free (F := F) (N i) c := by
  refine (Entails.of_eq (Idealize.ShloMosaic.Ring.pointsTo_blocks (fun i => piece m (R i)) (fun i j hij => View.disjoint_slice (hd i j hij)) (Finset.eq_univ_of_forall fun y => Finset.mem_biUnion.mpr ((cover hm hc y).imp fun i hi => ⟨Finset.mem_univ i, hi⟩)) f)).trans ?_
  refine bigSep_mono fun i _ => ?_
  refine BIBase.Entails.trans ?_ (free_iff c (h i) (hN i)).2
  iintro H; iexists f; iexact H

include hN hm hd hc in
theorem join (c : Dev nD) (f : Buf (Elt F) (m.view.loc (c : Thread nD τ))) : (bigSep Finset.univ fun i => free (F := F) (N i) c) ⊢ iprop(∃ f, bufAt m c f) := by
  refine BIBase.Entails.trans (bigSep_mono fun i _ => (free_iff c (h i) (hN i)).1) ?_
  exact (Idealize.ShloMosaic.Ring.pointsTo_blocks_join_exists (ℓ := m.view.loc (c : Thread nD τ)) (B := ι) (Val := Elt F) (q := fullShare) (fun i => piece m (R i)) (fun i j hij => View.disjoint_slice (hd i j hij)) (Finset.eq_univ_of_forall fun y => Finset.mem_biUnion.mpr ((cover hm hc y).imp fun i hi => ⟨Finset.mem_univ i, hi⟩)) f)

end Cut

/-! ## The block rectangles -/

theorem apart23 (p q : Fin 2 × Fin 3) (h : p ≠ q) : Disjoint (Rect.unit (s := S2x3x256x512) ![p.1.val, p.2.val, 0, 0] S1x1x256x512.size (inb23 p.1 p.2)).set
    (Rect.unit (s := S2x3x256x512) ![q.1.val, q.2.val, 0, 0] S1x1x256x512.size (inb23 q.1 q.2)).set := by
  by_cases h1 : p.1 = q.1
  · have h2 : p.2.val ≠ q.2.val := fun e => h (Prod.ext h1 (Fin.ext e))
    exact Rect.unit_disjoint (1 : Fin 4) (show p.2.val + 1 ≤ q.2.val ∨ q.2.val + 1 ≤ p.2.val by omega)
  · have h2 : p.1.val ≠ q.1.val := fun e => h1 (Fin.ext e)
    exact Rect.unit_disjoint (0 : Fin 4) (show p.1.val + 1 ≤ q.1.val ∨ q.1.val + 1 ≤ p.1.val by omega)
theorem apart22 (p q : Fin 2 × Fin 2) (h : p ≠ q) : Disjoint (Rect.unit (s := S2x2x256x512) ![p.1.val, p.2.val, 0, 0] S1x1x256x512.size (inb22 p.1 p.2)).set
    (Rect.unit (s := S2x2x256x512) ![q.1.val, q.2.val, 0, 0] S1x1x256x512.size (inb22 q.1 q.2)).set := by
  by_cases h1 : p.1 = q.1
  · have h2 : p.2.val ≠ q.2.val := fun e => h (Prod.ext h1 (Fin.ext e))
    exact Rect.unit_disjoint (1 : Fin 4) (show p.2.val + 1 ≤ q.2.val ∨ q.2.val + 1 ≤ p.2.val by omega)
  · have h2 : p.1.val ≠ q.1.val := fun e => h1 (Fin.ext e)
    exact Rect.unit_disjoint (0 : Fin 4) (show p.1.val + 1 ≤ q.1.val ∨ q.1.val + 1 ≤ p.1.val by omega)
theorem apart2 (p q : Fin 2) (h : p ≠ q) : Disjoint (Rect.unit (s := S2x256x512) ![p.val, 0, 0] S1x256x512.size (inb2 p)).set
    (Rect.unit (s := S2x256x512) ![q.val, 0, 0] S1x256x512.size (inb2 q)).set := by
  have h2 : p.val ≠ q.val := fun e => h (Fin.ext e)
  exact Rect.unit_disjoint (0 : Fin 3) (show p.val + 1 ≤ q.val ∨ q.val + 1 ≤ p.val by omega)

theorem meet23 (x : S2x3x256x512.Idx) : ∃ p : Fin 2 × Fin 3, x ∈ (Rect.unit (s := S2x3x256x512) ![p.1.val, p.2.val, 0, 0] S1x1x256x512.size (inb23 p.1 p.2)).set :=
  ⟨(x 0, x 1), Rect.mem_set_unit.mpr fun a => by
    match a with
    | ⟨0, _⟩ => exact ⟨le_refl _, Nat.lt_succ_self _⟩
    | ⟨1, _⟩ => exact ⟨le_refl _, Nat.lt_succ_self _⟩
    | ⟨2, _⟩ => exact ⟨Nat.zero_le _, (Nat.zero_add 256).symm ▸ (x 2).isLt⟩
    | ⟨3, _⟩ => exact ⟨Nat.zero_le _, (Nat.zero_add 512).symm ▸ (x 3).isLt⟩⟩
theorem meet22 (x : S2x2x256x512.Idx) : ∃ p : Fin 2 × Fin 2, x ∈ (Rect.unit (s := S2x2x256x512) ![p.1.val, p.2.val, 0, 0] S1x1x256x512.size (inb22 p.1 p.2)).set :=
  ⟨(x 0, x 1), Rect.mem_set_unit.mpr fun a => by
    match a with
    | ⟨0, _⟩ => exact ⟨le_refl _, Nat.lt_succ_self _⟩
    | ⟨1, _⟩ => exact ⟨le_refl _, Nat.lt_succ_self _⟩
    | ⟨2, _⟩ => exact ⟨Nat.zero_le _, (Nat.zero_add 256).symm ▸ (x 2).isLt⟩
    | ⟨3, _⟩ => exact ⟨Nat.zero_le _, (Nat.zero_add 512).symm ▸ (x 3).isLt⟩⟩
theorem meet2 (x : S2x256x512.Idx) : ∃ p : Fin 2, x ∈ (Rect.unit (s := S2x256x512) ![p.val, 0, 0] S1x256x512.size (inb2 p)).set :=
  ⟨x 0, Rect.mem_set_unit.mpr fun a => by
    match a with
    | ⟨0, _⟩ => exact ⟨le_refl _, Nat.lt_succ_self _⟩
    | ⟨1, _⟩ => exact ⟨Nat.zero_le _, (Nat.zero_add 256).symm ▸ (x 1).isLt⟩
    | ⟨2, _⟩ => exact ⟨Nat.zero_le _, (Nat.zero_add 512).symm ▸ (x 2).isLt⟩⟩

/-! ## The five buffers -/

theorem six (Φ : Fin 2 × Fin 3 → sProp 𝕄) : bigSep Finset.univ Φ = iprop(Φ (0, 0) ∗ Φ (0, 1) ∗ Φ (0, 2) ∗ Φ (1, 0) ∗ Φ (1, 1) ∗ Φ (1, 2)) :=
  bigSep_univ_eq_bigSepL [(0, 0), (0, 1), (0, 2), (1, 0), (1, 1), (1, 2)] (by decide) (by decide) Φ
theorem four (Φ : Fin 2 × Fin 2 → sProp 𝕄) : bigSep Finset.univ Φ = iprop(Φ (0, 0) ∗ Φ (0, 1) ∗ Φ (1, 0) ∗ Φ (1, 1)) :=
  bigSep_univ_eq_bigSepL [(0, 0), (0, 1), (1, 0), (1, 1)] (by decide) (by decide) Φ
theorem two (Φ : Fin 2 → sProp 𝕄) : bigSep Finset.univ Φ = iprop(Φ 0 ∗ Φ 1) :=
  bigSep_univ_eq_bigSepL [0, 1] (by decide) (by decide) Φ

variable (c : Dev nD)

theorem cutS (f : Buf (Elt F) ((c : Thread nD τ).loc cc0_scratch1)) : ((c : Thread nD τ).loc cc0_scratch1 ↦{fullShare} f : sProp 𝕄)
    ⊢ iprop(free (F := F) (blkS 0 0) c ∗ free (F := F) (blkS 0 1) c ∗ free (F := F) (blkS 0 2) c ∗ free (F := F) (blkS 1 0) c ∗ free (F := F) (blkS 1 1) c ∗ free (F := F) (blkS 1 2) c) :=
  (cut (m := (Memref.whole cc0_scratch1 : Memref sig .tc .vmem S2x3x256x512 .bf16)) (N := (fun p : Fin 2 × Fin 3 => blkS p.1 p.2)) (fun _ => n4) (fun _ => rfl) (View.set_whole _) apart23 meet23 c f).trans (Entails.of_eq (six _))
theorem joinS (f₀ : Buf (Elt F) ((c : Thread nD τ).loc cc0_scratch1)) : iprop(free (F := F) (blkS 0 0) c ∗ free (F := F) (blkS 0 1) c ∗ free (F := F) (blkS 0 2) c ∗ free (F := F) (blkS 1 0) c ∗ free (F := F) (blkS 1 1) c ∗ free (F := F) (blkS 1 2) c)
    ⊢ iprop(∃ f, ((c : Thread nD τ).loc cc0_scratch1 ↦{fullShare} f : sProp 𝕄)) :=
  (Entails.of_eq (six _).symm).trans (join (m := (Memref.whole cc0_scratch1 : Memref sig .tc .vmem S2x3x256x512 .bf16)) (N := (fun p : Fin 2 × Fin 3 => blkS p.1 p.2)) (fun _ => n4) (fun _ => rfl) (View.set_whole _) apart23 meet23 c f₀)

theorem cutR (f : Buf (Elt F) ((c : Thread nD τ).loc cc0_scratch2)) : ((c : Thread nD τ).loc cc0_scratch2 ↦{fullShare} f : sProp 𝕄)
    ⊢ iprop(free (F := F) (blkR 0 0) c ∗ free (F := F) (blkR 0 1) c ∗ free (F := F) (blkR 0 2) c ∗ free (F := F) (blkR 1 0) c ∗ free (F := F) (blkR 1 1) c ∗ free (F := F) (blkR 1 2) c) :=
  (cut (m := (Memref.whole cc0_scratch2 : Memref sig .tc .vmem S2x3x256x512 .bf16)) (N := (fun p : Fin 2 × Fin 3 => blkR p.1 p.2)) (fun _ => n4) (fun _ => rfl) (View.set_whole _) apart23 meet23 c f).trans (Entails.of_eq (six _))
theorem joinR (f₀ : Buf (Elt F) ((c : Thread nD τ).loc cc0_scratch2)) : iprop(free (F := F) (blkR 0 0) c ∗ free (F := F) (blkR 0 1) c ∗ free (F := F) (blkR 0 2) c ∗ free (F := F) (blkR 1 0) c ∗ free (F := F) (blkR 1 1) c ∗ free (F := F) (blkR 1 2) c)
    ⊢ iprop(∃ f, ((c : Thread nD τ).loc cc0_scratch2 ↦{fullShare} f : sProp 𝕄)) :=
  (Entails.of_eq (six _).symm).trans (join (m := (Memref.whole cc0_scratch2 : Memref sig .tc .vmem S2x3x256x512 .bf16)) (N := (fun p : Fin 2 × Fin 3 => blkR p.1 p.2)) (fun _ => n4) (fun _ => rfl) (View.set_whole _) apart23 meet23 c f₀)

theorem cutO (f : Buf (Elt F) ((c : Thread nD τ).loc cc0_scratch3)) : ((c : Thread nD τ).loc cc0_scratch3 ↦{fullShare} f : sProp 𝕄)
    ⊢ iprop(free (F := F) (blkO 0) c ∗ free (F := F) (blkO 1) c) :=
  (cut (m := (Memref.whole cc0_scratch3 : Memref sig .tc .vmem S2x256x512 .bf16)) (N := blkO) (fun _ => n3) (fun _ => rfl) (View.set_whole _) apart2 meet2 c f).trans (Entails.of_eq (two _))
theorem joinO (f₀ : Buf (Elt F) ((c : Thread nD τ).loc cc0_scratch3)) : iprop(free (F := F) (blkO 0) c ∗ free (F := F) (blkO 1) c)
    ⊢ iprop(∃ f, ((c : Thread nD τ).loc cc0_scratch3 ↦{fullShare} f : sProp 𝕄)) :=
  (Entails.of_eq (two _).symm).trans (join (m := (Memref.whole cc0_scratch3 : Memref sig .tc .vmem S2x256x512 .bf16)) (N := blkO) (fun _ => n3) (fun _ => rfl) (View.set_whole _) apart2 meet2 c f₀)

theorem cutA (f : Buf (Elt F) ((c : Thread nD τ).loc cc0_scratch4)) : ((c : Thread nD τ).loc cc0_scratch4 ↦{fullShare} f : sProp 𝕄)
    ⊢ iprop(free (F := F) (blkA 0 0) c ∗ free (F := F) (blkA 0 1) c ∗ free (F := F) (blkA 1 0) c ∗ free (F := F) (blkA 1 1) c) :=
  (cut (m := (Memref.whole cc0_scratch4 : Memref sig .tc .vmem S2x2x256x512 .bf16)) (N := (fun p : Fin 2 × Fin 2 => blkA p.1 p.2)) (fun _ => n4) (fun _ => rfl) (View.set_whole _) apart22 meet22 c f).trans (Entails.of_eq (four _))
theorem joinA (f₀ : Buf (Elt F) ((c : Thread nD τ).loc cc0_scratch4)) : iprop(free (F := F) (blkA 0 0) c ∗ free (F := F) (blkA 0 1) c ∗ free (F := F) (blkA 1 0) c ∗ free (F := F) (blkA 1 1) c)
    ⊢ iprop(∃ f, ((c : Thread nD τ).loc cc0_scratch4 ↦{fullShare} f : sProp 𝕄)) :=
  (Entails.of_eq (four _).symm).trans (join (m := (Memref.whole cc0_scratch4 : Memref sig .tc .vmem S2x2x256x512 .bf16)) (N := (fun p : Fin 2 × Fin 2 => blkA p.1 p.2)) (fun _ => n4) (fun _ => rfl) (View.set_whole _) apart22 meet22 c f₀)

theorem cutB (f : Buf (Elt F) ((c : Thread nD τ).loc cc0_scratch5)) : ((c : Thread nD τ).loc cc0_scratch5 ↦{fullShare} f : sProp 𝕄)
    ⊢ iprop(free (F := F) (blkB 0) c ∗ free (F := F) (blkB 1) c) :=
  (cut (m := (Memref.whole cc0_scratch5 : Memref sig .tc .vmem S2x256x512 .bf16)) (N := blkB) (fun _ => n3) (fun _ => rfl) (View.set_whole _) apart2 meet2 c f).trans (Entails.of_eq (two _))
theorem joinB (f₀ : Buf (Elt F) ((c : Thread nD τ).loc cc0_scratch5)) : iprop(free (F := F) (blkB 0) c ∗ free (F := F) (blkB 1) c)
    ⊢ iprop(∃ f, ((c : Thread nD τ).loc cc0_scratch5 ↦{fullShare} f : sProp 𝕄)) :=
  (Entails.of_eq (two _).symm).trans (join (m := (Memref.whole cc0_scratch5 : Memref sig .tc .vmem S2x256x512 .bf16)) (N := blkB) (fun _ => n3) (fun _ => rfl) (View.set_whole _) apart2 meet2 c f₀)

end Cert.Ring
-- ==== Proof.Body.lean ====
/-
The whole body on one device: from its operands, its buffers and its share of the protocol to the finished result, the
buffers given back and every semaphore at zero.
-/
module

public import proofs.«01_k».proof.Proof.Blocks

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Opnds F) (c : Dev nD) (K : CellKey → ℕ)

/-- A device's part in the barrier: a duty at each neighbour, its own place, and the credit for two signals. -/
def gate (c : Dev nD) : sProp 𝕄 :=
  iprop(dutyTok ER (barCell (lft c)) 0 true ∗ dutyTok ER (barCell (rgt c)) 0 false ∗ atPos ER (barCell c) 0 ∅ 0 ∗ cred (tallyAt (barCell c) () 2))

/-- Part 1: the barrier — each neighbour is told that this device's landing blocks are ready, and theirs become this
    device's to write —, then chunk 0 is loaded. -/
theorem runs_part1 {Q : _ → sProp 𝕄} :
    rec A K ⊢ iprop(levAts L lv -∗ debt c (owe₀ c) -∗ gate c -∗ landEven c -∗ landOdd c -∗ inX A c -∗ inR A c -∗ inI A c
      -∗ (∀ v5 v7 v13, debt c (owe c 0) -∗ landOdd (lft c) -∗ landEven (rgt c) -∗ semVal (barCell c) 0 -∗ inX A c -∗ inR A c -∗ inI A c
        -∗ Q ⟨c, me c, v5, v7, v13, k0_pay1 (xs A c 0) (rs A c), k0_pay2 (is A c 0), iota .tc S256x16 32 [1] iota_S256x16_d1_w32⟩)
      -∗ runs c bp1 Q) := by
  simp only [bp1, withBufs, k0_part1_eq_skeleton]
  unfold k0_part1_skel
  simp only [semSignalWord, semWaitWord, Prog.lift, Prog.bind_op, Prog.bind_ret, Prog.pure_eq_ret, Prog.bind_assoc, runs, wp_deviceId]
  rw [show (⟨k0_dev1 c, k0_dev1_lt c⟩ : Dev nD) = lft c from Fin.ext (k0_dev1_eq c), show (⟨k0_dev2 c, k0_dev2_lt c⟩ : Dev nD) = rgt c from Fin.ext (k0_dev2_eq c)]
  unfold debt gate
  iintro #HR #HL ⟨%W, HO⟩ ⟨HtL, HtR, Hat, Hc⟩ HE HOd X R I HQ
  iapply (Rounds.wp_signal 𝒱₀ ER (sched (sent A)) (c : Thread nD τ) none (dst := (lft c : Thread nD τ)) (κ := K (lft c, none)) (d := true)
      (by rw [duties_bar]; exact Finset.mem_univ _) ((amount_bar (sent A) (lft c) true).trans (by decide)) () (owe₁ c) rfl) $$ [HO HtL HE]
  · isplitr; · iapply (inv_bar (sent A) K (lft c)); iexact HR
    isplitl [HO]; · iexact HO
    isplitl [HtL]; · iexact HtL
    isplitl [HE]
    · rw [payload_bar]; unfold barPay; rw [if_pos rfl, rgt_lft]; iexact HE
    iapply (reached_bar (sent A) K (lft c)); iexact HR
  iintro HO
  iapply (Rounds.wp_signal 𝒱₀ ER (sched (sent A)) (c : Thread nD τ) none (dst := (rgt c : Thread nD τ)) (κ := K (rgt c, none)) (d := false)
      (by rw [duties_bar]; exact Finset.mem_univ _) ((amount_bar (sent A) (rgt c) false).trans (by decide)) () (owe c 0) rfl) $$ [HO HtR HOd]
  · isplitr; · iapply (inv_bar (sent A) K (rgt c)); iexact HR
    isplitl [HO]; · iexact HO
    isplitl [HtR]; · iexact HtR
    isplitl [HOd]
    · rw [payload_bar]; unfold barPay; rw [if_neg (by decide), lft_rgt]; iexact HOd
    iapply (reached_bar (sent A) K (rgt c)); iexact HR
  iintro HO
  iapply (Rounds.wp_wait_rest_token 𝒱₀ ER (sched (sent A)) (c : Thread nD τ) none (κ := K (c, none)) (wpE_semWait_eq 𝒱₀ (c : Thread nD τ) none Set.univ)
      (Set.mem_univ _) () (O := owe c 0) (W := W) (R := 0) (m := 0) (T := ∅) (by rw [expect_bar]; decide)) $$ [HO Hat Hc]
  · isplitr; · iapply (inv_bar (sent A) K c); iexact HR
    isplitl [Hc]; · iexact Hc
    isplitl [HO]; · iexact HO
    isplitr; · iapply (mayWait_bar c); iexact HL
    iexact Hat
  iintro ⟨HO, Hat, -, Hpay⟩
  ihave Hp := (Entails.of_eq (rest_bar (sent A) c)) $$ Hpay
  icases Hp with ⟨HOd, HE⟩
  imod (Rounds.cell_close ER (sched (sent A)) (Set.mem_univ (K (c, none))) (fun h => h) (R := 0 + 1) (duties_after (sent A) (barCell c))) $$ [Hat] with Hz
  · isplitr; · iapply (inv_bar (sent A) K c); iexact HR
    iexact Hat
  iapply (load_x A c 0 (at1 c)) $$ X
  iintro X
  iapply (load_r A c) $$ R
  iintro R
  iapply (load_i A c 0 (at2 c)) $$ I
  iintro I
  iapply (runs_ret c)
  unfold me
  ihave HO' : iprop(∃ W, owes (c : Thread nD τ) (owe c 0) W) $$ [HO]
  · iexists _; iexact HO
  iapply HQ $$ HO' HOd HE Hz X R I

theorem twelve (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-- The neighbours' landing blocks are those this device's copies go to. -/
theorem landings (c : Dev nD) : iprop(landOdd (lft c) ∗ landEven (rgt c)) ⊢ bigSep Finset.univ fun t => free (F := F) (dstM t) (peer t c) := by
  rw [twelve]; unfold landOdd landEven
  iintro ⟨⟨H1, H3, H5, H7, H9, H11⟩, H0, H2, H4, H6, H8, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The duties and places of the copies with the blocks they go to are the tickets. -/
theorem tickets (c : Dev nD) : iprop((bigSep Finset.univ fun t => iprop(fare t c ∗ place (false, t) c)) ∗ bigSep Finset.univ fun t => free (F := F) (dstM t) (peer t c))
    ⊢ bigSep Finset.univ fun t => ticket t c := by
  refine BIBase.Entails.trans (Entails.of_eq (bigSep_sep _ _ _).symm) (bigSep_mono fun t _ => ?_)
  show iprop((fare t c ∗ place (false, t) c) ∗ free (dstM t) (peer t c)) ⊢ iprop(fare t c ∗ place (false, t) c ∗ free (dstM t) (peer t c))
  iintro ⟨⟨H1, H2⟩, H3⟩
  isplitl [H1]; · iexact H1
  isplitl [H2]; · iexact H2
  iexact H3

/-- The order in which the result's blocks were written, last first. -/
abbrev outs : List (Fin 4 × Fin 2) := [(1, 1), (3, 0), (0, 1), (2, 1), (2, 0), (0, 0), (3, 1), (1, 0)]

/-- The five communication buffers, whole. -/
def comm (c : Dev nD) : sProp 𝕄 :=
  iprop((∃ f, (c : Thread nD τ).loc cc0_scratch1 ↦{fullShare} f) ∗ (∃ f, (c : Thread nD τ).loc cc0_scratch2 ↦{fullShare} f)
    ∗ (∃ f, (c : Thread nD τ).loc cc0_scratch3 ↦{fullShare} f) ∗ (∃ f, (c : Thread nD τ).loc cc0_scratch4 ↦{fullShare} f)
    ∗ (∃ f, (c : Thread nD τ).loc cc0_scratch5 ↦{fullShare} f))
theorem comm_eq (c : Dev nD) : comm (F := F) c =
  iprop((∃ f, (c : Thread nD τ).loc cc0_scratch1 ↦{fullShare} f) ∗ (∃ f, (c : Thread nD τ).loc cc0_scratch2 ↦{fullShare} f)
    ∗ (∃ f, (c : Thread nD τ).loc cc0_scratch3 ↦{fullShare} f) ∗ (∃ f, (c : Thread nD τ).loc cc0_scratch4 ↦{fullShare} f)
    ∗ (∃ f, (c : Thread nD τ).loc cc0_scratch5 ↦{fullShare} f)) := rfl

theorem holds_free (M : Memref sig .tc .vmem S256x512 .bf16) (w : Blk F) : holds M fullShare c w ⊢ free M c := by
  unfold free; iintro H; iexists w; iexact H

set_option maxHeartbeats 8000000 in
/-- The body, on device `c`. -/
theorem runs_body {Q : PUnit → sProp 𝕄} :
    rec A K ⊢ iprop(levAts L lv -∗ debt c (owe₀ c) -∗ gate c -∗ (bigSep Finset.univ fun t => iprop(fare t c ∗ place (false, t) c)) -∗ (bigSep Finset.univ fun t => due (true, t) c)
      -∗ inX A c -∗ inR A c -∗ inI A c -∗ inE A c -∗ gates A c [] -∗ result A c [] -∗ comm c
      -∗ (debt c (owe c 12) -∗ semVal (barCell c) 0 -∗ (bigSep Finset.univ fun t => semVal (sendCell t c) 0) -∗ (bigSep Finset.univ fun t => semVal (recvCell t c) 0)
        -∗ inX A c -∗ inR A c -∗ inI A c -∗ inE A c -∗ gates A c (colsTo 4) -∗ result A c outs -∗ comm c -∗ Q ⟨⟩)
      -∗ runs c (withBufs (T := Prog (TpuEff nD τ sig (Elt F) Λ₀ .tc) PUnit) cc0_body) Q) := by
  simp only [withBufs, cc0_body_eq_skeleton]
  unfold cc0_body_skel
  rw [k0_part32_eq_skeleton]
  unfold k0_part32_skel
  simp only [Prog.lift, Prog.bind_op, Prog.bind_ret, Prog.pure_eq_ret, Prog.bind_assoc]
  iintro #HR #HL HO HG HF HD X R I E G Y Cm HQ
  ihave Cm := (Entails.of_eq (comm_eq c)) $$ Cm
  icases Cm with ⟨⟨%fS, S⟩, ⟨%fR, Rc⟩, ⟨%fO, O⟩, ⟨%fA, AA⟩, ⟨%fB, BB⟩⟩
  ihave S := (cutS c fS) $$ S
  icases S with ⟨S00, S01, S02, S10, S11, S12⟩
  ihave Rc := (cutR c fR) $$ Rc
  icases Rc with ⟨R00, R01, R02, R10, R11, R12⟩
  ihave O := (cutO c fO) $$ O
  icases O with ⟨O0, O1⟩
  ihave AA := (cutA c fA) $$ AA
  icases AA with ⟨A00, A01, A10, A11⟩
  ihave BB := (cutB c fB) $$ BB
  icases BB with ⟨B0, B1⟩
  ihave HE : landEven (F := F) c $$ [R00 R01 R02 A00 A10 B0]
  · unfold landEven
    isplitl [R00]; · iexact R00
    isplitl [R01]; · iexact R01
    isplitl [R02]; · iexact R02
    isplitl [A00]; · iexact A00
    isplitl [A10]; · iexact A10
    iexact B0
  ihave HOd : landOdd (F := F) c $$ [R10 R11 R12 A01 A11 B1]
  · unfold landOdd
    isplitl [R10]; · iexact R10
    isplitl [R11]; · iexact R11
    isplitl [R12]; · iexact R12
    isplitl [A01]; · iexact A01
    isplitl [A11]; · iexact A11
    iexact B1
  rw [runs_bind]
  iapply (runs_part1 A c K) $$ HR HL HO HG HE HOd X R I
  iintro %v5 %v7 %v13 HO HOd HE ZB X R I
  ihave HT : iprop(bigSep Finset.univ fun t => ticket (F := F) t c) $$ [HF HOd HE]
  · ihave HM := (landings c) $$ [HOd HE]
    · isplitl [HOd]; · iexact HOd
      iexact HE
    iapply (tickets c)
    isplitl [HF]; · iexact HF
    iexact HM
  ihave HT := (Entails.of_eq (twelve _)) $$ HT
  icases HT with ⟨T0, T1, T2, T3, T4, T5, T6, T7, T8, T9, T10, T11⟩
  ihave HD := (Entails.of_eq (twelve _)) $$ HD
  icases HD with ⟨D0, D1, D2, D3, D4, D5, D6, D7, D8, D9, D10, D11⟩
  try dsimp only
  rw [runs_bind]
  iapply (runs_part2 A c _ _ _ _ _ rfl) $$ G
  iintro G
  try dsimp only
  rw [runs_bind]
  iapply (runs_part3 A c _ _ _ _ _ _ _ _ _ rfl rfl) $$ G
  iintro G
  try dsimp only
  rw [runs_bind]
  iapply (runs_part4 A c _ _ rfl) $$ G E X S00
  iintro G E X B0
  try dsimp only
  rw [runs_bind]
  iapply (runs_part5 A c K _ _ _ _ _ _ rfl) $$ HR HO T0 B0 T1 S10
  iintro HO F0 F1
  try dsimp only
  rw [runs_bind]
  iapply (runs_part6 A c _ _) $$ X R I
  iintro X R I
  try dsimp only
  rw [runs_bind]
  iapply (runs_part7 A c _ _ _ _ _ _ _ _ rfl rfl) $$ G
  iintro G
  try dsimp only
  rw [runs_bind]
  iapply (runs_part8 A c _ _ _ _ _ _ _ rfl rfl) $$ G X R I
  iintro G X R I
  try dsimp only
  rw [runs_bind]
  iapply (runs_part9 A c _ _ _ _ _ _ rfl) $$ G
  iintro G
  try dsimp only
  rw [runs_bind]
  iapply (runs_part10 A c _ _ _ _ _ _ _ _ _ rfl rfl rfl) $$ G
  iintro G
  try dsimp only
  rw [runs_bind]
  iapply (runs_part11 A c _) $$ X R I
  iintro X R I
  try dsimp only
  rw [runs_bind]
  iapply (runs_part12 A c _ _ _ _ _ _ _ _ _ rfl rfl) $$ G
  iintro G
  try dsimp only
  rw [runs_bind]
  iapply (runs_part13 A c _ _ _ _ _ _ _ _ _ _ rfl rfl) $$ G X
  iintro G X
  try dsimp only
  rw [runs_bind]
  iapply (runs_part14 A c _ _ _ _ _ _ _ _ _) $$ G X
  iintro G X
  try dsimp only
  rw [runs_bind]
  iapply (runs_part15 A c K _ _) $$ HR HL HO D0 S01 T2
  iintro HO L0 Z0 F2
  try dsimp only
  rw [runs_bind]
  iapply (runs_part16 A c K _ _) $$ HR HL HO D1 S11 T3
  iintro HO L1 Z1 F3
  try dsimp only
  rw [runs_bind]
  iapply (runs_part17 A c _ _ _ _) $$ G X
  iintro G X
  try dsimp only
  rw [runs_bind]
  iapply (runs_part18 A c K _) $$ HR HL HO D2 S02
  iintro HO L2 Z2 B4
  try dsimp only
  rw [runs_bind]
  iapply (runs_part19 A c K _) $$ HR HL HO T4 B4 D3 S12
  iintro HO F4 L3 Z3 B5
  try dsimp only
  rw [runs_bind]
  iapply (runs_part20 A c K _ _) $$ HR HO T5 B5 G X
  iintro HO F5 G X
  try dsimp only
  rw [runs_bind]
  iapply (runs_part21 A c K _ _ _ _ _) $$ HR HL HO D4 O0
  iintro HO L4 Z4 O0
  try dsimp only
  rw [runs_bind]
  iapply (runs_part22 A c K _ _ _ _ rfl) $$ HR HO O0 T6 T7 Y
  iintro HO F6 F7 Y
  try dsimp only
  rw [runs_bind]
  iapply (runs_part23 A c K _ _) $$ HR HL HO D5 O1 T8
  iintro HO L5 Z5 F8 B9
  try dsimp only
  rw [runs_bind]
  iapply (runs_part24 A c K _ _ _ _ rfl) $$ HR HL HO T9 B9 Y D6
  iintro HO F9 Y L6 Z6
  try dsimp only
  rw [runs_bind]
  iapply (runs_part25 A c K _ _) $$ HR HL HO T10 L6 D9
  iintro HO F10 C6 L9 Z9
  try dsimp only
  rw [runs_bind]
  iapply (runs_part26 A c K _ _) $$ HR HL HO T11 L9 D7 C6 Y
  iintro HO F11 C9 L7 Z7 C6 Y
  try dsimp only
  rw [runs_bind]
  iapply (runs_part27 A c K _ _) $$ HR HL HO D8 C9 Y
  iintro HO L8 Z8 C9 Y
  try dsimp only
  rw [runs_bind]
  iapply (runs_part28 A c K _ _) $$ HR HL HO D10 D11 Y
  iintro HO L10 Z10 L11 Z11 Y
  try dsimp only
  rw [runs_bind]
  iapply (runs_part29 A c K) $$ HR HL HO F0 F2 F4
  iintro HO B0 Y0 B2 Y2 B4 Y4
  try dsimp only
  rw [runs_bind]
  iapply (runs_part30 A c K) $$ HR HL HO F6 F7 F10
  iintro HO B6 Y6 B7 Y7 B10 Y10
  try dsimp only
  rw [runs_bind]
  iapply (runs_part31 A c K) $$ HR HL HO F1 F3 F5
  iintro HO B1 Y1 B3 Y3 B5 Y5
  iapply (await_departure (sent A) K c 8 rfl) $$ HR HL HO F8
  iintro HO B8 Y8
  iapply (await_departure (sent A) K c 9 rfl) $$ HR HL HO F9
  iintro HO B9 Y9
  iapply (await_departure (sent A) K c 11 rfl) $$ HR HL HO F11
  iintro HO B11 Y11
  iapply (runs_ret c)
  ihave HY : iprop(bigSep Finset.univ fun t => semVal (sendCell t c) 0) $$ [Y0 Y1 Y2 Y3 Y4 Y5 Y6 Y7 Y8 Y9 Y10 Y11]
  · iapply (Entails.of_eq (twelve _).symm)
    isplitl [Y0]; · iexact Y0
    isplitl [Y1]; · iexact Y1
    isplitl [Y2]; · iexact Y2
    isplitl [Y3]; · iexact Y3
    isplitl [Y4]; · iexact Y4
    isplitl [Y5]; · iexact Y5
    isplitl [Y6]; · iexact Y6
    isplitl [Y7]; · iexact Y7
    isplitl [Y8]; · iexact Y8
    isplitl [Y9]; · iexact Y9
    isplitl [Y10]; · iexact Y10
    iexact Y11
  ihave HZ : iprop(bigSep Finset.univ fun t => semVal (recvCell t c) 0) $$ [Z0 Z1 Z2 Z3 Z4 Z5 Z6 Z7 Z8 Z9 Z10 Z11]
  · iapply (Entails.of_eq (twelve _).symm)
    isplitl [Z0]; · iexact Z0
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    iexact Z11
  ihave B0 := (show laden A c 0 ⊢ free (srcM 0) c from holds_free c (srcM 0) (sent A 0 c)) $$ B0
  ihave B1 := (show laden A c 1 ⊢ free (srcM 1) c from holds_free c (srcM 1) (sent A 1 c)) $$ B1
  ihave B2 := (show laden A c 2 ⊢ free (srcM 2) c from holds_free c (srcM 2) (sent A 2 c)) $$ B2
  ihave B3 := (show laden A c 3 ⊢ free (srcM 3) c from holds_free c (srcM 3) (sent A 3 c)) $$ B3
  ihave B4 := (show laden A c 4 ⊢ free (srcM 4) c from holds_free c (srcM 4) (sent A 4 c)) $$ B4
  ihave B5 := (show laden A c 5 ⊢ free (srcM 5) c from holds_free c (srcM 5) (sent A 5 c)) $$ B5
  ihave L0 := (show got A c 0 ⊢ free (dstM 0) c from holds_free c (dstM 0) _) $$ L0
  ihave L1 := (show got A c 1 ⊢ free (dstM 1) c from holds_free c (dstM 1) _) $$ L1
  ihave L2 := (show got A c 2 ⊢ free (dstM 2) c from holds_free c (dstM 2) _) $$ L2
  ihave L3 := (show got A c 3 ⊢ free (dstM 3) c from holds_free c (dstM 3) _) $$ L3
  ihave L4 := (show got A c 4 ⊢ free (dstM 4) c from holds_free c (dstM 4) _) $$ L4
  ihave L5 := (show got A c 5 ⊢ free (dstM 5) c from holds_free c (dstM 5) _) $$ L5
  ihave L7 := (show got A c 7 ⊢ free (dstM 7) c from holds_free c (dstM 7) _) $$ L7
  ihave L8 := (show got A c 8 ⊢ free (dstM 8) c from holds_free c (dstM 8) _) $$ L8
  ihave L10 := (show got A c 10 ⊢ free (dstM 10) c from holds_free c (dstM 10) _) $$ L10
  ihave L11 := (show got A c 11 ⊢ free (dstM 11) c from holds_free c (dstM 11) _) $$ L11
  ihave O0 := (show iprop(laden A c 6 ∗ laden A c 7) ⊢ free (blkO 0) c from halves_free (blkO 0) c _ _) $$ [B6 B7]
  · isplitl [B6]; · iexact B6
    iexact B7
  ihave O1 := (show iprop(laden A c 8 ∗ laden A c 9) ⊢ free (blkO 1) c from halves_free (blkO 1) c _ _) $$ [B8 B9]
  · isplitl [B8]; · iexact B8
    iexact B9
  ihave L6 := (show iprop(laden A c 10 ∗ holds (dstM 6) fullShare.right c (sent A 6 (orig 6 c))) ⊢ free (blkA 0 0) c from halves_free (blkA 0 0) c _ _) $$ [B10 C6]
  · isplitl [B10]; · iexact B10
    iexact C6
  ihave L9 := (show iprop(laden A c 11 ∗ holds (dstM 9) fullShare.right c (sent A 9 (orig 9 c))) ⊢ free (blkA 1 1) c from halves_free (blkA 1 1) c _ _) $$ [B11 C9]
  · isplitl [B11]; · iexact B11
    iexact C9
  ihave JS := (joinS (F := F) c fS) $$ [B0 B2 B4 B1 B3 B5]
  · isplitl [B0]; · iexact B0
    isplitl [B2]; · iexact B2
    isplitl [B4]; · iexact B4
    isplitl [B1]; · iexact B1
    isplitl [B3]; · iexact B3
    iexact B5
  ihave JR := (joinR (F := F) c fR) $$ [L0 L2 L4 L1 L3 L5]
  · isplitl [L0]; · iexact L0
    isplitl [L2]; · iexact L2
    isplitl [L4]; · iexact L4
    isplitl [L1]; · iexact L1
    isplitl [L3]; · iexact L3
    iexact L5
  ihave JO := (joinO (F := F) c fO) $$ [O0 O1]
  · isplitl [O0]; · iexact O0
    iexact O1
  ihave JA := (joinA (F := F) c fA) $$ [L6 L7 L8 L9]
  · isplitl [L6]; · iexact L6
    isplitl [L7]; · iexact L7
    isplitl [L8]; · iexact L8
    iexact L9
  ihave JB := (joinB (F := F) c fB) $$ [L10 L11]
  · isplitl [L10]; · iexact L10
    iexact L11
  ihave J : comm (F := F) c $$ [JS JR JO JA JB]
  · unfold comm
    isplitl [JS]; · iexact JS
    isplitl [JR]; · iexact JR
    isplitl [JO]; · iexact JO
    isplitl [JA]; · iexact JA
    iexact JB
  iapply HQ $$ HO ZB HY HZ X R I E G Y J

end Cert.Ring
-- ==== Proof.Step.lean ====
/-
The one step of the launch, device by device: what it finds, what it leaves, and that the body takes it from the one to
the other.
-/
module

public import proofs.«01_k».proof.Proof.Body
public import proofs.«01_k».proof.Proof.Gen.KernelIdeal.Launch

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The result, whole -/

/-- Which of device `c`'s chunks row `r` lies in, and which half of the columns column `k`. -/
def chunkOf (c : Dev nD) (r : Fin 1024) : Fin 4 := ⟨(r.val / 256 + 4 - c.val) % 4, Nat.mod_lt _ (by decide)⟩
def halfOf (k : Fin 1024) : Fin 2 := ⟨k.val / 512, by omega⟩

/-- The result as device `c` leaves it. -/
def outAt (A : Opnds F) (c : Dev nD) : Vec F S1024x1024 .bf16 := fun i =>
  ob A c (chunkOf c (i 0), halfOf (i 1)) (ValueIdx.ix2 ⟨(i 0).val % 256, Nat.mod_lt _ (by decide)⟩ ⟨(i 1).val % 512, Nat.mod_lt _ (by decide)⟩)

theorem row_chunk (c : Dev nD) (r : Fin 1024) : row0 c (chunkOf c r) + r.val % 256 = r.val := by
  have hc : c.val < 4 := c.isLt
  have h : (c.val + (r.val / 256 + 4 - c.val) % 4) % 4 = r.val / 256 := by omega
  show 256 * ((c.val + (r.val / 256 + 4 - c.val) % 4) % 4) + r.val % 256 = r.val
  omega

theorem outAt_of (A : Opnds F) (c : Dev nD) (f : Vec F S1024x1024 .bf16)
    (hf : ∀ p ∈ outs, (yM.access (Rect.unit ![row0 c p.1, 512 * p.2.val] S256x512.size (inbY c p))).read (Elt F) f = ob A c p) : f = outAt A c := by
  funext i
  have hp : ∀ p : Fin 4 × Fin 2, p ∈ outs := by decide
  refine Eq.trans ?_ (congrFun (hf (chunkOf c (i 0), halfOf (i 1)) (hp _)) (ValueIdx.ix2 ⟨(i 0).val % 256, Nat.mod_lt _ (by decide)⟩ ⟨(i 1).val % 512, Nat.mod_lt _ (by decide)⟩))
  rw [View.read_apply]
  refine congrArg f (funext fun a => Fin.ext ?_)
  match a with
  | ⟨0, _⟩ => show (i 0).val = row0 c (chunkOf c (i 0)) + 1 * ((i 0).val % 256); rw [Nat.one_mul]; exact (row_chunk c (i 0)).symm
  | ⟨1, _⟩ => show (i 1).val = 512 * ((i 1).val / 512) + 1 * ((i 1).val % 512); omega

/-! ## The data of the launch -/

variable (m : (ℓ : Loc nD τ sig) → Buf (Elt F) ℓ) (ρ : Dev nD → PrngReg)

abbrev s₀ : MemSt nD τ sig (Elt F) := ⟨m, fun _ => 0, ρ⟩

/-- The operands, as the launch finds them. -/
def opnds : Opnds F where
  x c := (win0_0.blk (0 : Fin 1)).view.read (Elt F) ((s₀ m ρ).mem ((c : Thread nD τ).loc main_arg0))
  r c := (win0_1.blk (0 : Fin 1)).view.read (Elt F) ((s₀ m ρ).mem ((c : Thread nD τ).loc main_arg1))
  i c := (win0_2.blk (0 : Fin 1)).view.read (Elt F) ((s₀ m ρ).mem ((c : Thread nD τ).loc main_arg2))
  e c := (win0_3.blk (0 : Fin 1)).view.read (Elt F) ((s₀ m ρ).mem ((c : Thread nD τ).loc main_arg3))

abbrev 𝒜 : Opnds F := opnds m ρ

/-- All that device `c` starts from besides its buffers. -/
def ghost (K : CellKey → ℕ) (c : Dev nD) : sProp 𝕄 :=
  iprop(rec (𝒜 m ρ) K ∗ gate c ∗ (bigSep Finset.univ fun t => iprop(fare t c ∗ place (false, t) c)) ∗ (bigSep Finset.univ fun t => due (true, t) c) ∗ levAts L lv)
def start (c : Dev nD) : sProp 𝕄 := iprop(∃ K, ghost m ρ K c)

/-- The buffers no window stages. -/
def scratch (c : Dev nD) : sProp 𝕄 :=
  iprop((∃ f, (c : Thread nD τ).loc cc0_scratch0 ↦{fullShare} f) ∗ comm (F := F) c)
/-- A device's semaphores, spent. -/
def spent (c : Dev nD) : sProp 𝕄 :=
  iprop(semVal (barCell c) 0 ∗ (bigSep Finset.univ fun t => semVal (sendCell t c) 0) ∗ (bigSep Finset.univ fun t => semVal (recvCell t c) 0))

def before (c : Dev nD) : sProp 𝕄 := iprop(start m ρ c ∗ scratch (F := F) c)
def after (c : Dev nD) : sProp 𝕄 := iprop(scratch (F := F) c ∗ spent (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (𝒜 m ρ).x c
    | ⟨1, _⟩ => (𝒜 m ρ).r c
    | ⟨2, _⟩ => (𝒜 m ρ).i c
    | ⟨3, _⟩ => (𝒜 m ρ).e c
    | ⟨4, _⟩ => outAt (𝒜 m ρ) c
  Φ t := match t with
    | ⟨0, _⟩ => before m ρ c
    | ⟨_ + 1, _⟩ => after c
  q _ := fullShare
  owed t := match t with
    | ⟨0, _⟩ => owe₀ c
    | ⟨_ + 1, _⟩ => 0

abbrev pt : Fin cfg0.N := t0_0

theorem fetched (w : Fin 5) (hw : w ≠ 4) : (cfg0.win w).fetch pt = true := by
  fin_cases w <;> first | rfl | exact absurd rfl hw

/-- A staging buffer, whole, holding `X`. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

def bodyPre (c : Dev nD) : sProp 𝕄 :=
  iprop(before m ρ c ∗ (dats m ρ 0 c).owesAt () pt.castSucc
    ∗ (∃ d, stg c cc0_stg0_0 ((dats m ρ 0 c).before (0 : Fin 5) pt d))
    ∗ (∃ d, stg c cc0_stg1_0 ((dats m ρ 0 c).before (1 : Fin 5) pt d))
    ∗ (∃ d, stg c cc0_stg2_0 ((dats m ρ 0 c).before (2 : Fin 5) pt d))
    ∗ (∃ d, stg c cc0_stg3_0 ((dats m ρ 0 c).before (3 : Fin 5) pt d))
    ∗ (∃ d, stg c cc0_stg4_0 ((dats m ρ 0 c).before (4 : Fin 5) pt d)))

def bodyPost (c : Dev nD) : sProp 𝕄 :=
  iprop(after c ∗ (dats m ρ 0 c).owesAt () pt.succ
    ∗ stg c cc0_stg0_0 ((𝒜 m ρ).x c) ∗ stg c cc0_stg1_0 ((𝒜 m ρ).r c) ∗ stg c cc0_stg2_0 ((𝒜 m ρ).i c) ∗ stg c cc0_stg3_0 ((𝒜 m ρ).e c)
    ∗ stg c cc0_stg4_0 (outAt (𝒜 m ρ) c))

theorem staged_x (c : Dev nD) : iprop(∃ d, stg c cc0_stg0_0 ((dats m ρ 0 c).before (0 : Fin 5) pt d)) ⊢ inX (𝒜 m ρ) c := by
  iintro ⟨%d, %f, %hf, H⟩
  have hx : f = (𝒜 m ρ).x c := by rw [hf]; unfold Dat.before; rw [if_pos (fetched 0 (by decide))]; rfl
  subst hx
  iexact H
theorem staged_r (c : Dev nD) : iprop(∃ d, stg c cc0_stg1_0 ((dats m ρ 0 c).before (1 : Fin 5) pt d)) ⊢ inR (𝒜 m ρ) c := by
  iintro ⟨%d, %f, %hf, H⟩
  have hx : f = (𝒜 m ρ).r c := by rw [hf]; unfold Dat.before; rw [if_pos (fetched 1 (by decide))]; rfl
  subst hx
  iexact H
theorem staged_i (c : Dev nD) : iprop(∃ d, stg c cc0_stg2_0 ((dats m ρ 0 c).before (2 : Fin 5) pt d)) ⊢ inI (𝒜 m ρ) c := by
  iintro ⟨%d, %f, %hf, H⟩
  have hx : f = (𝒜 m ρ).i c := by rw [hf]; unfold Dat.before; rw [if_pos (fetched 2 (by decide))]; rfl
  subst hx
  iexact H
theorem staged_e (c : Dev nD) : iprop(∃ d, stg c cc0_stg3_0 ((dats m ρ 0 c).before (3 : Fin 5) pt d)) ⊢ inE (𝒜 m ρ) c := by
  iintro ⟨%d, %f, %hf, H⟩
  have hx : f = (𝒜 m ρ).e c := by rw [hf]; unfold Dat.before; rw [if_pos (fetched 3 (by decide))]; rfl
  subst hx
  iexact H

/-- Nothing written yet: any contents will do. -/
theorem fresh_gates (A : Opnds F) (c : Dev nD) : iprop(∃ f, (c : Thread nD τ).loc cc0_scratch0 ↦{fullShare} f) ⊢ gates A c [] := by
  unfold gates filled
  iintro ⟨%f, H⟩
  iexists f
  isplitr; · ipureintro; exact fun p hp => absurd hp (List.not_mem_nil)
  iexact H
theorem fresh_result (A : Opnds F) (c : Dev nD) (X : Vec F S1024x1024 .bf16) : stg c cc0_stg4_0 X ⊢ result A c [] := by
  unfold result filled
  iintro ⟨%f, %hf, H⟩
  iexists f
  isplitr; · ipureintro; exact fun p hp => absurd hp (List.not_mem_nil)
  iexact H
theorem done_gates (A : Opnds F) (c : Dev nD) (D : List (Fin 4 × Fin 4)) : gates A c D ⊢ iprop(∃ f, (c : Thread nD τ).loc cc0_scratch0 ↦{fullShare} f) := by
  unfold gates filled
  iintro ⟨%f, %hf, H⟩
  iexists f; iexact H
theorem done_result (A : Opnds F) (c : Dev nD) : result A c outs ⊢ stg c cc0_stg4_0 (outAt A c) := by
  unfold result filled
  iintro ⟨%f, %hf, H⟩
  iexists f
  isplitr; · ipureintro; exact outAt_of A c f hf
  iexact H

theorem step_body (c : Dev nD) : bodyPre m ρ c ⊢ runs c (withBufs (T := Prog (TpuEff nD τ sig (Elt F) Λ₀ .tc) PUnit) cc0_body) (fun _ => bodyPost m ρ c) := by
  unfold bodyPre before start ghost scratch Dat.owesAt Pipeline.owesWithin
  iintro ⟨⟨⟨%K, #HR, HG, HF, HD, #HL⟩, Hg, Cm⟩, ⟨%W, %hW, HO⟩, X, R, I, E, ⟨%d, Y⟩⟩
  ihave X := (staged_x m ρ c) $$ X
  ihave R := (staged_r m ρ c) $$ R
  ihave I := (staged_i m ρ c) $$ I
  ihave E := (staged_e m ρ c) $$ E
  ihave G := (fresh_gates (𝒜 m ρ) c) $$ Hg
  ihave Y := (fresh_result (𝒜 m ρ) c _) $$ Y
  ihave HO : debt (F := F) c (owe₀ c) $$ [HO]
  · unfold debt; iexists W; iexact HO
  iapply (runs_body (𝒜 m ρ) c K) $$ HR HL HO HG HF HD X R I E G Y Cm
  iintro HO ZB ZS ZR X R I E G Y Cm
  unfold bodyPost after scratch spent Dat.owesAt Pipeline.owesWithin debt
  icases HO with ⟨%W', HO⟩
  isplitl [G Cm ZB ZS ZR]
  · isplitl [G Cm]
    · isplitl [G]; · iapply (done_gates (𝒜 m ρ) c _); iexact G
      iexact Cm
    isplitl [ZB]; · iexact ZB
    isplitl [ZS]; · iexact ZS
    iexact ZR
  isplitl [HO]
  · iexists W'
    isplitr; · ipureintro; exact fun _ _ => Or.inl trivial
    rw [owe_end]; iexact HO
  isplitl [X]; · iexists _; isplitr; · (ipureintro; rfl)
                 iexact X
  isplitl [R]; · iexists _; isplitr; · (ipureintro; rfl)
                 iexact R
  isplitl [I]; · iexists _; isplitr; · (ipureintro; rfl)
                 iexact I
  isplitl [E]; · iexists _; isplitr; · (ipureintro; rfl)
                 iexact E
  iapply (done_result (𝒜 m ρ) c); iexact Y

set_option maxRecDepth 65536 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact step_body m ρ c

end Cert.Ring
-- ==== Proof.Launch.lean ====
/-
The launch: the cells and tokens minted, dealt out and passed around the ring, and the run of the whole program.
-/
module

public import proofs.«01_k».proof.Proof.Step
public import Idealize.ShloMosaic.Lib.Pipeline.CollectiveSegs

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over the keys -/

theorem over_keys (Φ : Option OwnKey → sProp 𝕄) :
    bigSep Finset.univ Φ = iprop(Φ none ∗ (bigSep Finset.univ fun t => Φ (some (false, t))) ∗ bigSep Finset.univ fun t => Φ (some (true, t))) := by
  have he : (Finset.univ : Finset (Option OwnKey)).erase none = Finset.univ.map Function.Embedding.some := by decide
  rw [bigSep_univ_at Φ none, he, bigSep_map, bigSep_univ_prod, bigSep_univ_eq_bigSepL [false, true] (by decide) (by decide), bigSepL_cons_cons, bigSepL_singleton]
  rfl

/-! ## What is minted -/

theorem cellAt_injective : Function.Injective cellAt := by
  rintro ⟨c, k⟩ ⟨c', k'⟩ h
  have h1 : c = c' := by
    have := congrArg (fun g : GSem nD τ sig => g.1.1) h
    cases k <;> cases k' <;> exact this
  subst h1
  have h2 := congrArg Prod.snd h
  cases k with
  | none => cases k' with
    | none => rfl
    | some o => exact absurd h2 nofun
  | some o => cases k' with
    | none => exact absurd h2 nofun
    | some o' => rw [copyQ_inj (SemLoc.dma.inj h2)]

def ringCells : Finset (GSem nD τ sig) := Finset.univ.map ⟨cellAt, cellAt_injective⟩

/-- The duties `false`, one on every cell, -/
def tokF : CellKey ↪ GSem nD τ sig × ℕ × Bool := ⟨fun k => (cellAt k, 0, false), fun _ _ h => cellAt_injective (congrArg Prod.fst h)⟩
/-- and the duties `true`, one on every barrier cell. -/
def tokT : Dev nD ↪ GSem nD τ sig × ℕ × Bool := ⟨fun c => (barCell c, 0, true), fun _ _ h => congrArg (fun x : GSem nD τ sig × ℕ × Bool => x.1.1.1) h⟩
theorem tok_disjoint : Disjoint (Finset.univ.map tokF) (Finset.univ.map tokT) :=
  Finset.disjoint_left.mpr fun x hF hT => by
    obtain ⟨k, -, rfl⟩ := Finset.mem_map.mp hF
    obtain ⟨c, -, h⟩ := Finset.mem_map.mp hT
    exact absurd (congrArg (fun x : GSem nD τ sig × ℕ × Bool => x.2.2) h) Bool.noConfusion
def ringToks : Finset (GSem nD τ sig × ℕ × Bool) := Finset.univ.map tokF ∪ Finset.univ.map tokT

def u₀ : UU := (initOf (Pipeline.cells cfgs cellOf_inj) (Pipeline.launchToks cfgs cellOf_inj), initOf ringCells ringToks)

/-- The duties of a device's own cells. -/
def minted (c : Dev nD) : sProp 𝕄 :=
  iprop((bigSep Finset.univ fun k => dutyTok ER (cellAt (c, k)) 0 false) ∗ dutyTok ER (barCell c) 0 true)

/-- What a device is dealt first: its own cells and their duties. -/
def dealt (c : Dev nD) : sProp 𝕄 :=
  iprop((bigSep Finset.univ fun k => roundState ER (sched (sent (𝒜 m ρ))) (cellAt (c, k)) 0)
    ∗ (bigSep Finset.univ fun k => iprop(atPos ER (cellAt (c, k)) 0 ∅ 0 ∗ reached ER (cellAt (c, k)) 0)) ∗ minted c)

theorem fund_ring : BI.own (ER (initOf ringCells ringToks)) ⊢ (|==> bigSep Finset.univ (dealt m ρ) : sProp 𝕄) := by
  have hX (Φ : GSem nD τ sig → sProp 𝕄) : bigSep ringCells Φ = bigSep Finset.univ fun c : Dev nD => bigSep Finset.univ fun k => Φ (cellAt (c, k)) := by
    unfold ringCells; rw [bigSep_map, bigSep_univ_prod]; rfl
  have hT : bigSep ringToks (fun x => (dutyTok ER x.1 x.2.1 x.2.2 : sProp 𝕄)) = bigSep Finset.univ fun c : Dev nD => minted c := by
    unfold ringToks minted; rw [bigSep_union tok_disjoint, bigSep_map, bigSep_map, bigSep_univ_prod, bigSep_sep']; rfl
  iintro HX
  imod (Rounds.fund ER (sched (sent (𝒜 m ρ))) ringCells ringToks) $$ HX with ⟨Hst, Hr, Hat, Htok⟩
  imodintro
  ihave Hst := (Entails.of_eq (hX fun g => roundState ER (sched (sent (𝒜 m ρ))) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat Hr]
  · isplitl [Hat]; · iexact Hat
    iexact Hr
  iexact Htok

/-! ## The cells' invariants -/

theorem ownSemFacts : Pipeline.OwnSemFacts cfg0.spec osem := by decide

theorem ownSems_eq (c : Dev nD) : (Pipeline.ownSems0 (Ix := Unit) (Name := ℕ) (U := UU) (Lvl := ℕ) (Val := Elt F) (τ := τ) osem c : sProp 𝕄)
    = iprop((bigSep Finset.univ fun t => semVal (sendCell t c) 0) ∗ bigSep Finset.univ fun t => semVal (recvCell t c) 0) := by
  unfold Pipeline.ownSems0
  rw [bigSep_univ_prod, bigSep_univ_eq_bigSepL [false, true] (by decide) (by decide), bigSepL_cons_cons, bigSepL_singleton]
  rfl
theorem barSem_eq (c : Dev nD) : (unscopedSems0 c : sProp 𝕄) = semVal (barCell c) 0 := by
  unfold unscopedSems0; rw [bigSep_eq_bigSepL_of_eq [SemLoc.reg barS] (by decide) (by decide)]; rfl

/-- A device's semaphores, all at zero. -/
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (cellAt (c, k)) 0 : sProp 𝕄) := by
  rw [ownSems_eq, barSem_eq, over_keys]
  iintro ⟨⟨HS, HV⟩, HB⟩
  isplitl [HB]; · iexact HB
  isplitl [HS]; · iexact HS
  iexact HV

theorem device_alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k => iprop(∃ κ : ℕ, cellInv ER (sched (sent (𝒜 m ρ))) κ (cellAt (c, k))))
          ∗ (bigSep Finset.univ fun k => iprop(atPos ER (cellAt (c, k)) 0 ∅ 0 ∗ reached ER (cellAt (c, k)) 0)) ∗ minted c) := by
  unfold dealt
  iintro ⟨Hos, Hus, Hst, Hat, Htok⟩
  ihave Hv := (sems_eq (F := F) c) $$ [Hos Hus]
  · isplitl [Hos]; · iexact Hos
    iexact Hus
  imod (show iprop((bigSep Finset.univ fun k => semVal (cellAt (c, k)) 0) ∗ bigSep Finset.univ fun k => roundState ER (sched (sent (𝒜 m ρ))) (cellAt (c, k)) 0)
      ⊢ (|={Set.univ}=> bigSep Finset.univ fun k => iprop(∃ κ : ℕ, cellInv ER (sched (sent (𝒜 m ρ))) κ (cellAt (c, k))) : sProp 𝕄) from by
        rw [← bigSep_sep']
        exact (bigSep_mono fun k _ => (Rounds.body_intro ER (sched (sent (𝒜 m ρ))) (cellAt (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-! ## The duties, around the ring -/

/-- What a device keeps: its places, and the duties that are its to pay. -/
def places (c : Dev nD) : sProp 𝕄 :=
  iprop(atPos ER (barCell c) 0 ∅ 0 ∗ (bigSep Finset.univ fun t => place (false, t) c) ∗ bigSep Finset.univ fun t => place (true, t) c)
def pays (c : Dev nD) : sProp 𝕄 :=
  iprop(dutyTok ER (barCell (lft c)) 0 true ∗ dutyTok ER (barCell (rgt c)) 0 false ∗ bigSep Finset.univ fun t => fare t c)
def linear (c : Dev nD) : sProp 𝕄 := iprop(places (F := F) c ∗ pays (F := F) c)
def share (c : Dev nD) : sProp 𝕄 := iprop(∃ K, rec (𝒜 m ρ) K ∗ linear (F := F) c)

/-- The ring one place on. -/
def ring : Dev nD ≃ Dev nD := ⟨rgt, lft, lft_rgt, rgt_lft⟩

/-- Every device's duties on receive cell `t` go to the devices that send to it. -/
theorem recv_around : (bigSep Finset.univ fun c : Dev nD => bigSep Finset.univ fun t => (dutyTok ER (recvCell t c) 0 false : sProp 𝕄))
    = bigSep Finset.univ fun c : Dev nD => bigSep Finset.univ fun t => dutyTok ER (recvCell t (peer t c)) 0 false := by
  rw [bigSep_univ_comm, bigSep_univ_comm (fun (c : Dev nD) t => (dutyTok ER (recvCell t (peer t c)) 0 false : sProp 𝕄))]
  exact bigSep_congr fun t _ => bigSep_univ_equiv (step t) (fun c => (dutyTok ER (recvCell t c) 0 false : sProp 𝕄))

theorem around : (bigSep Finset.univ fun c : Dev nD => (minted c : sProp 𝕄)) ⊢ bigSep Finset.univ fun c : Dev nD => pays c := by
  have hm : ∀ c : Dev nD, (minted c : sProp 𝕄) = iprop((dutyTok ER (barCell c) 0 false ∗ (bigSep Finset.univ fun t => dutyTok ER (sendCell t c) 0 false)
      ∗ bigSep Finset.univ fun t => dutyTok ER (recvCell t c) 0 false) ∗ dutyTok ER (barCell c) 0 true) := fun c => by
    unfold minted; rw [over_keys]; rfl
  have hp : ∀ c : Dev nD, (pays c : sProp 𝕄) = iprop(dutyTok ER (barCell (lft c)) 0 true ∗ dutyTok ER (barCell (rgt c)) 0 false
      ∗ (bigSep Finset.univ fun t => dutyTok ER (sendCell t c) 0 false) ∗ bigSep Finset.univ fun t => dutyTok ER (recvCell t (peer t c)) 0 false) := fun c => by
    unfold pays fare; rw [bigSep_sep']
  rw [bigSep_congr fun c _ => hm c, bigSep_congr fun c _ => hp c, bigSep_sep', bigSep_sep', bigSep_sep', bigSep_sep', bigSep_sep', bigSep_sep',
    bigSep_univ_equiv ring (fun c : Dev nD => (dutyTok ER (barCell c) 0 false : sProp 𝕄)),
    bigSep_univ_equiv ring.symm (fun c : Dev nD => (dutyTok ER (barCell c) 0 true : sProp 𝕄)), recv_around]
  iintro ⟨⟨H1, H2, H3⟩, H4⟩
  isplitl [H4]; · iexact H4
  isplitl [H1]; · iexact H1
  isplitl [H2]; · iexact H2
  iexact H3

/-- A standing fact goes along with every member of a conjunction. -/
theorem along {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem places_of (c : Dev nD) : (bigSep Finset.univ fun k => (atPos ER (cellAt (c, k)) 0 ∅ 0 : sProp 𝕄)) = places c := by
  unfold places place; rw [over_keys]; rfl

theorem share_out :
    (bigSep Finset.univ fun c : Dev nD => iprop((bigSep Finset.univ fun k => iprop(∃ κ : ℕ, cellInv ER (sched (sent (𝒜 m ρ))) κ (cellAt (c, k))))
          ∗ (bigSep Finset.univ fun k => iprop(atPos ER (cellAt (c, k)) 0 ∅ 0 ∗ reached ER (cellAt (c, k)) 0)) ∗ minted c) : sProp 𝕄)
      ⊢ bigSep Finset.univ (share m ρ) := by
  rw [bigSep_sep', bigSep_sep', ← bigSep_univ_prod (fun k : CellKey => iprop(∃ κ : ℕ, cellInv ER (sched (sent (𝒜 m ρ))) κ (cellAt k))),
    bigSep_congr (s := Finset.univ) (fun (c : Dev nD) _ => bigSep_sep' Finset.univ (fun k => (atPos ER (cellAt (c, k)) 0 ∅ 0 : sProp 𝕄)) (fun k => reached ER (cellAt (c, k)) 0)),
    bigSep_sep', ← bigSep_univ_prod (fun k : CellKey => (reached ER (cellAt k) 0 : sProp 𝕄)), bigSep_congr fun c _ => places_of c]
  iintro ⟨HI, ⟨Hat, #HR⟩, Htok⟩
  ihave HK := (BI.bigSep_exists_pi Finset.univ (fun (k : CellKey) (κ : ℕ) => (cellInv ER (sched (sent (𝒜 m ρ))) κ (cellAt k) : sProp 𝕄))) $$ HI
  icases HK with ⟨%K, #HI⟩
  ihave Htok := (around (F := F)) $$ Htok
  iapply (along (R := rec (𝒜 m ρ) K) (Φ := linear) fun c _ => by unfold share; iintro ⟨H, H'⟩; iexists K; isplitl [H]; · iexact H
                                                                 iexact H')
  isplitr
  · unfold rec records; isplitl; · iexact HI
    iexact HR
  · unfold linear; rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (share m ρ) :=
  ((bigSep_mono fun c _ => device_alloc m ρ c).trans (bigSep_fupd _ _)).trans (BI.fupd_mono (share_out m ρ))

/-! ## The credits -/

theorem bar_inj {a b : Dev nD} (h : barCell a = barCell b) : a = b := congrArg (fun g : GSem nD τ sig => g.1.1) h
theorem recv_inj {t t' : Fin 12} {a b : Dev nD} (h : recvCell t a = recvCell t' b) : t = t' ∧ a = b :=
  ⟨congrArg Prod.snd (copyQ_inj (SemLoc.dma.inj (congrArg Prod.snd h))), congrArg (fun g : GSem nD τ sig => g.1.1) h⟩

theorem recv_ne_bar {q : DmaSem sig} (h : (SemLoc.dma q : SemLoc sig) = .reg barS) : False := by cases h

theorem owe_bar (d c : Dev nD) : owe d 0 (barCell c) () = 0 :=
  Nat.eq_zero_of_not_pos fun h => by obtain ⟨t, -, e⟩ := owe_pos h; exact absurd (congrArg Prod.snd e) nofun
theorem owe_recv (d c : Dev nD) (t : Fin 12) : owe d 0 (recvCell t c) () = if d = orig t c then blkN else 0 := by
  unfold owe
  rw [Finset.sum_apply, Finsupp.finset_sum_apply, Finset.sum_eq_single t]
  · rw [if_pos (Nat.zero_le _), tallyAt_apply]
    by_cases h : d = orig t c
    · subst h; rw [peer_orig, if_pos ⟨rfl, rfl⟩, if_pos rfl]
    · rw [if_neg (fun e => h (by rw [(recv_inj e.1).2, orig_peer])), if_neg h]
  · intro t' _ ht
    rw [if_pos (Nat.zero_le _), tallyAt_apply, if_neg fun e => ht (recv_inj e.1).1.symm]
  · exact fun h => absurd (Finset.mem_univ _) h

theorem owed_bar (d c : Dev nD) : owe₀ d (barCell c) () = (if d = lft c then 1 else 0) + (if d = rgt c then 1 else 0) := by
  unfold owe₀ owe₁
  rw [Pi.add_apply, Finsupp.add_apply, Pi.add_apply, Finsupp.add_apply, owe_bar, tallyAt_apply, tallyAt_apply, Nat.zero_add]
  congr 1
  · by_cases h : d = lft c
    · subst h; rw [rgt_lft, if_pos ⟨rfl, rfl⟩, if_pos rfl]
    · rw [if_neg (fun e => h (by rw [bar_inj e.1, lft_rgt])), if_neg h]
  · by_cases h : d = rgt c
    · subst h; rw [lft_rgt, if_pos ⟨rfl, rfl⟩, if_pos rfl]
    · rw [if_neg (fun e => h (by rw [bar_inj e.1, rgt_lft])), if_neg h]
theorem owed_recv (d c : Dev nD) (t : Fin 12) : owe₀ d (recvCell t c) () = if d = orig t c then blkN else 0 := by
  unfold owe₀ owe₁
  rw [Pi.add_apply, Finsupp.add_apply, Pi.add_apply, Finsupp.add_apply, owe_recv, tallyAt_apply, tallyAt_apply,
    if_neg (show ¬(recvCell t c = barCell (rgt d) ∧ () = ()) from fun e => recv_ne_bar (congrArg Prod.snd e.1)),
    if_neg (show ¬(recvCell t c = barCell (lft d) ∧ () = ()) from fun e => recv_ne_bar (congrArg Prod.snd e.1))]
  rfl

theorem credit_bar (c : Dev nD) : tallyOn (barCell c) (launchCredit (Pipeline.owing owe₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lft c) fun _ => 1, Finset.sum_ite_eq' Finset.univ (rgt c) fun _ => 1, if_pos (Finset.mem_univ _), if_pos (Finset.mem_univ _)]
theorem credit_recv (c : Dev nD) (t : Fin 12) : tallyOn (recvCell t c) (launchCredit (Pipeline.owing owe₀) 0 (recvCell t c)) = (tallyAt (recvCell t c) () blkN : CellTallies nD τ sig Unit) := by
  unfold tallyAt; refine congrArg _ (Finsupp.ext fun u => ?_); cases u
  rw [Pipeline.launchCredit_owing, Finsupp.single_eq_same, Finset.sum_congr rfl fun d _ => owed_recv d c t, Finset.sum_ite_eq' Finset.univ (orig t c) fun _ => blkN, if_pos (Finset.mem_univ _)]

def recvSem : Fin 12 ↪ SemLoc sig := ⟨fun t => .dma (copyQ (true, t)), fun _ _ h => congrArg Prod.snd (copyQ_inj (SemLoc.dma.inj h))⟩

theorem credits (c : Dev nD) :
    (Pipeline.launchCred owe₀ c : sProp 𝕄) ⊢ iprop(cred (tallyAt (barCell c) () 2) ∗ bigSep Finset.univ fun t => owed (true, t) c) := by
  unfold Pipeline.launchCred
  rw [bigSep_univ_at _ (SemLoc.reg barS), credit_bar]
  refine sep_mono_right ?_
  refine BIBase.Entails.trans (bigSep_subset (t := Finset.univ.map recvSem) fun s hs => ?_) (Entails.of_eq ?_)
  · obtain ⟨t, -, rfl⟩ := Finset.mem_map.mp hs
    exact Finset.mem_erase.mpr ⟨nofun, Finset.mem_univ _⟩
  · rw [bigSep_map]
    exact bigSep_congr fun t _ => congrArg cred (credit_recv c t)

/-! ## The run -/

theorem start_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ share m ρ c)
      ⊢ |={Set.univ}=> iprop(start m ρ c ∗ emp) := by
  unfold share linear places pays
  iintro ⟨-, #Hlev, Hcr, -, ⟨%K, #HR, ⟨HB, HS, HV⟩, HtL, HtR, HF⟩⟩
  ihave Hc := (credits (F := F) c) $$ Hcr
  icases Hc with ⟨H2, HN⟩
  imodintro
  unfold start ghost gate due
  isplitl
  · iexists K
    isplitr; · iexact HR
    isplitl [HtL HtR HB H2]
    · isplitl [HtL]; · iexact HtL
      isplitl [HtR]; · iexact HtR
      isplitl [HB]; · iexact HB
      iexact H2
    rw [bigSep_sep', bigSep_sep']
    isplitl [HF HS]
    · isplitl [HF]; · iexact HF
      iexact HS
    isplitl [HV HN]
    · isplitl [HV]; · iexact HV
      iexact HN
    iexact Hlev
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before scratch comm
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after c from rfl, scopedRest0_eq, ownSems_eq, barSem_eq]
  unfold after scratch comm spent
  iintro ⟨Hr, HB, HS, HV⟩
  isplitl [HB]; · iexact HB
  isplitl [HS HV]
  · isplitl [HS]; · iexact HS
    iexact HV
  iexact Hr

theorem whichCopy_none {q : DmaSem sig} (h : ∀ k, copyQ k ≠ q) : whichCopy q = none := by
  unfold whichCopy
  rw [Finset.filter_eq_empty_iff.mpr fun k _ => h k]
  simp

theorem waits (c : Dev nD) : (levAts L lv : sProp 𝕄) ⊢ Pipeline.cellsWaits cfgs (dats m ρ) () 0 c :=
  Pipeline.cellsWaits_intro cfgs (dats m ρ) () 0 c fun w s t =>
    mayWait_other c _ (whichCopy_none fun k e => ownSemFacts.disj k w s (congrArg SemLoc.dma e)) _ (by
      rcases t with ⟨_ | _, ht⟩
      · exact Or.inl rfl
      · exact Or.inr rfl)

theorem share_full (c : Dev nD) (w : Fin cfg0.W) : (dats m ρ 0 c).share w = fullShare := by unfold Dat.share; split <;> rfl

/-- The window's array on device `c` after the run. -/
def final (c : Dev nD) (w : Fin cfg0.W) : Buf (Elt F) ((cfg0.win w).arr.view.loc (c : Thread nD τ)) := (dats m ρ 0 c).arrAt w cfg0.N

set_option maxRecDepth 8000 in
/-- For any float values and from any memory with all counters at zero, every fair execution of the program on the four
    devices ends, with each device's arrays as computed and every counter at zero. -/
theorem run_main : θ_run defs (onTc (τ := τ) (main (F := F))) (s₀ m ρ)
    (fun r => (∀ c : Dev nD, ∀ w : Fin cfg0.W, r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := owe₀) (howed₀ := fun _ => rfl) (howedN := fun _ => rfl)
    (L := L) (lv := lv) (hL := L_of_ne) (hwaits := waits m ρ)
    (G := dealt m ρ) (G' := share m ρ) (u₀ := u₀)
    (hu₀ := by
      unfold u₀
      iintro Hu
      ihave H := (ownU_pair _ _) $$ Hu
      icases H with ⟨HP, HX⟩
      imod (fund_ring m ρ) $$ HX with HG
      imodintro
      isplitl [HP]; · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- An operand's array after the run holds what it held. -/
theorem final_operand (c : Dev nD) (w : Fin cfg0.W) (hw : (cfg0.win w).isOut = false) : final m ρ c w = (s₀ m ρ).mem ((cfg0.win w).arr.view.loc (c : Thread nD τ)) :=
  (dats (F := F) m ρ 0 c).arrAt_in w hw _

end Cert.Ring
-- ==== Proof.Weights.lean ====
/-
The mathematics of the routed sum over the extended reals: softmax weights of real scores are positive reals, and a sum
over all sixteen experts in which only the two chosen ones carry a weight is the two chosen experts' products, weighted.
Nothing here speaks of a program.
-/
module

public import Idealize.ShloMosaic.PureOps
public import Idealize.ShloMosaic.Lib.IdealHost

@[expose] public section

noncomputable section

namespace Cert.Ring

open Idealize.ShloMosaic

/-! ## Softmax -/

/-- The largest score, as a fold from the least f32 value. -/
abbrev peak (s : Fin 16 → EReal) : EReal := Finset.univ.fold max (Ideal.ofBits .f32 0xFF800000#32) s

/-- The softmax of the scores. -/
def weight (s : Fin 16 → EReal) (e : Fin 16) : EReal := Ideal.div (Ideal.exp (s e - peak s)) (∑ k, Ideal.exp (s k - peak s))

/-- A chosen expert's weight as a share of the two chosen experts' together. -/
def portion (s : Fin 16 → EReal) (k k0 k1 : Fin 16) : EReal := Ideal.div (weight s k) (weight s k0 + weight s k1)

theorem least : Ideal.ofBits .f32 0xFF800000#32 = ⊥ := by
  simp [Ideal.ofBits, Ideal.ieee]

theorem coe_sum {ι : Type} (S : Finset ι) (g : ι → ℝ) : ((∑ i ∈ S, g i : ℝ) : EReal) = ∑ i ∈ S, (g i : EReal) := by
  classical
  induction S using Finset.induction_on with
  | empty => simp
  | insert i S hi ih => rw [Finset.sum_insert hi, Finset.sum_insert hi, EReal.coe_add, ih]

theorem real_sum {ι : Type} (S : Finset ι) (f : ι → EReal) (hf : ∀ i, ∃ t : ℝ, f i = t) : ∃ t : ℝ, ∑ i ∈ S, f i = t := by
  choose g hg using hf
  exact ⟨∑ i ∈ S, g i, by rw [coe_sum]; exact Finset.sum_congr rfl fun i _ => hg i⟩

theorem real_peak (s : Fin 16 → EReal) (hs : ∀ e, ∃ t : ℝ, s e = t) : ∃ t : ℝ, peak s = t := by
  have hb : peak s ≠ ⊥ := by
    refine bot_lt_iff_ne_bot.mp ((Finset.lt_fold_max (⊥ : EReal)).mpr (Or.inr ⟨0, Finset.mem_univ _, ?_⟩))
    obtain ⟨t, ht⟩ := hs 0
    rw [ht]
    exact EReal.bot_lt_coe t
  have ht : peak s ≠ ⊤ := by
    refine lt_top_iff_ne_top.mp ((Finset.fold_max_lt (⊤ : EReal)).mpr ⟨by rw [least]; exact bot_lt_top, fun e _ => ?_⟩)
    obtain ⟨t, ht⟩ := hs e
    rw [ht]
    exact EReal.coe_lt_top t
  exact ⟨(peak s).toReal, (EReal.coe_toReal ht hb).symm⟩

/-- The softmax of real scores is real and positive. -/
theorem weight_pos (s : Fin 16 → EReal) (hs : ∀ e, ∃ t : ℝ, s e = t) (e : Fin 16) : ∃ q : ℝ, 0 < q ∧ weight s e = q := by
  obtain ⟨p, hp⟩ := real_peak s hs
  choose t ht using hs
  have hx : ∀ k, Ideal.exp (s k - peak s) = (Real.exp (t k - p) : EReal) := fun k => by
    rw [hp, ht, ← EReal.coe_sub, Ideal.exp_coe]
  have hpos : 0 < ∑ k, Real.exp (t k - p) := Finset.sum_pos (fun k _ => Real.exp_pos _) ⟨0, Finset.mem_univ _⟩
  refine ⟨Real.exp (t e - p) * (1 / ∑ k, Real.exp (t k - p)), by positivity, ?_⟩
  unfold weight
  rw [hx, Finset.sum_congr rfl fun k _ => hx k, ← coe_sum, Ideal.div_coe hpos.ne', EReal.coe_mul]

/-- A chosen expert's share is the product the kernel forms, its weight times one over the sum of the two. -/
theorem portion_eq (s : Fin 16 → EReal) (hs : ∀ e, ∃ t : ℝ, s e = t) (k k0 k1 : Fin 16) :
    weight s k * Ideal.div 1 (weight s k0 + weight s k1) = portion s k k0 k1 := by
  obtain ⟨a, ha, ea⟩ := weight_pos s hs k0
  obtain ⟨b, hb, eb⟩ := weight_pos s hs k1
  refine Ideal.mul_one_div ?_
  rw [ea, eb, ← EReal.coe_add]
  exact EReal.coe_ne_zero.mpr (by positivity)

/-- A chosen expert's share is a real number, and not negative. -/
theorem portion_real (s : Fin 16 → EReal) (hs : ∀ e, ∃ t : ℝ, s e = t) (k k0 k1 : Fin 16) : ∃ q : ℝ, 0 ≤ q ∧ portion s k k0 k1 = q := by
  obtain ⟨a, ha, ea⟩ := weight_pos s hs k0
  obtain ⟨b, hb, eb⟩ := weight_pos s hs k1
  obtain ⟨c, hc, ec⟩ := weight_pos s hs k
  refine ⟨c * (1 / (a + b)), by positivity, ?_⟩
  unfold portion
  rw [ea, eb, ec, ← EReal.coe_add, Ideal.div_coe (by positivity), EReal.coe_mul]

/-! ## The routed sum -/

/-- A real factor that is not negative leaves a finite sum, whatever the terms. -/
theorem factor {ι : Type} (S : Finset ι) (c : ℝ) (hc : 0 ≤ c) (f : ι → EReal) : ∑ i ∈ S, (c : EReal) * f i = c * ∑ i ∈ S, f i := by
  classical
  induction S using Finset.induction_on with
  | empty => simp
  | insert i S hi ih =>
    rw [Finset.sum_insert hi, Finset.sum_insert hi, ih]
    exact (EReal.left_distrib_of_nonneg_of_ne_top (EReal.coe_nonneg.mpr hc) (EReal.coe_ne_top c) _ _).symm

/-- What expert `E` carries when `k0` is chosen with weight `a` and `k1` with weight `b` (both, if both are `E`). -/
def carried (a b : EReal) (k0 k1 E : Fin 16) : EReal := (if k0 = E then a else 0) + (if k1 = E then b else 0)

/-- The sum over all experts of their weighted products is the two chosen experts' products, weighted. -/
theorem routed (a b : EReal) (ha : ∃ q : ℝ, 0 ≤ q ∧ a = q) (hb : ∃ q : ℝ, 0 ≤ q ∧ b = q) (k0 k1 : Fin 16)
    (x : Fin 512 → EReal) (W : Fin 16 → Fin 512 → EReal) :
    ∑ E, ∑ d, (carried a b k0 k1 E * x d) * W E d = a * (∑ d, x d * W k0 d) + b * ∑ d, x d * W k1 d := by
  obtain ⟨a, ha, rfl⟩ := ha
  obtain ⟨b, hb, rfl⟩ := hb
  have hE : ∀ E, ∑ d, (carried a b k0 k1 E * x d) * W E d
      = (if k0 = E then (a : EReal) * ∑ d, x d * W E d else 0) + (if k1 = E then (b : EReal) * ∑ d, x d * W E d else 0) := by
    intro E
    have hc : carried a b k0 k1 E = (((if k0 = E then a else 0) + (if k1 = E then b else 0) : ℝ) : EReal) := by
      unfold carried
      split <;> split <;> simp
    have hn : ∀ (p : Prop) [Decidable p] (q : ℝ), 0 ≤ q → 0 ≤ if p then q else 0 := fun p _ q hq => by split <;> [exact hq; exact le_rfl]
    rw [hc, Finset.sum_congr rfl fun d _ => mul_assoc _ (x d) (W E d), factor _ _ (add_nonneg (hn _ a ha) (hn _ b hb)), EReal.coe_add,
      EReal.right_distrib_of_nonneg (EReal.coe_nonneg.mpr (hn _ a ha)) (EReal.coe_nonneg.mpr (hn _ b hb))]
    congr 1 <;> (split <;> simp)
  rw [Finset.sum_congr rfl fun E _ => hE E, Finset.sum_add_distrib, Finset.sum_ite_eq, Finset.sum_ite_eq]
  simp

end Cert.Ring
-- ==== Proof.Gates.lean ====
/-
The gate columns, read at one token. The kernel writes the same column sixteen times over, for four chunks of rows and
four local experts, in sixteen spellings; `column` is the one text they all stand for, and `column_apply` what it holds in
one row.
-/
module

public import proofs.«01_k».proof.Proof.Contents
public import proofs.«01_k».proof.Proof.Weights
public import Idealize.ShloMosaic.Lib.Pointwise

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## One text for the sixteen columns -/

/-- The softmaxed weight a token gives to the expert named in column `o` of its choices. -/
abbrev pick (p : FVec F S256x16 .f32) (q : IVec S256x1 32) : FVec F S256x1 .f32 :=
  shapeCast S256x1 (multiReduction .add [1] S256
    (select (cmpi .eq (iota .tc S256x16 32 [1] iota_S256x16_d1_w32) (broadcastTo S256x16 q broadcasts_S256x1_S256x16)) p (broadcast S256x16 (Scalar.ofBits .f32 0x00000000#32)))
    0x00000000#32 reduces_S256x16_S256 (.inl rfl) rfl) shapeCasts_S256_S256x1

/-- The gate column of the expert whose number is the word `w`. -/
def column (w : BitVec 32) (x : Vec F S256x512 .f32) (r : Vec F S512x16 .f32) (i : Vec F S256x2 .i32) : FVec F S256x1 .f32 :=
  let q : IVec S256x2 32 := shapeCast S256x2 i shapeCasts_S256x2_S256x2
  let q0 : IVec S256x1 32 := extractStridedSlice S256x1 ![0, 0] q slices_S256x2_o0_0_S256x1
  let q1 : IVec S256x1 32 := extractStridedSlice S256x1 ![0, 1] q slices_S256x2_o0_1_S256x1
  let g0 := pick (k0_pay1 x r) q0
  let g1 := pick (k0_pay1 x r) q1
  let s : FVec F S256x1 .f32 := divf (broadcast S256x1 (Scalar.ofBits .f32 0x3F800000#32)) (addf g0 g1)
  shapeCast S256x1 (addf (select (cmpi .eq q0 (broadcast S256x1 w)) (mulf g0 s) (broadcast S256x1 (Scalar.ofBits .f32 0x00000000#32)))
    (select (cmpi .eq q1 (broadcast S256x1 w)) (mulf g1 s) (broadcast S256x1 (Scalar.ofBits .f32 0x00000000#32)))) shapeCasts_S256x1_S256x1

theorem gateCol_eq (j : Fin 4) (n : BitVec 32) (x : Vec F S256x512 .f32) (r : Vec F S512x16 .f32) (i : Vec F S256x2 .i32) (e : Fin 4) :
    gateCol j n x r i e = column (Scalar.addi (Scalar.muli n 4#32) (BitVec.ofNat 32 e.val)) x r i := by
  match j, e with
  | 0, 0 | 0, 1 | 0, 2 | 0, 3 | 1, 0 | 1, 1 | 1, 2 | 1, 3 | 2, 0 | 2, 1 | 2, 2 | 2, 3 | 3, 0 | 3, 1 | 3, 2 | 3, 3 => rfl

/-! ## A column in one row -/

/-- A token's scores: row `a` of the tokens against the router weights. -/
abbrev scores (x : Fin 512 → EReal) (r : Vec Ideal S512x16 .f32) (e : Fin 16) : EReal := ∑ d, x d * r (ix2 d e)

theorem word_eq (k E : Fin 16) : (IntOp.cmpi .eq (BitVec.ofNat 32 k.val) (BitVec.ofNat 32 E.val) : BitVec 1) = if k = E then 1#1 else 0#1 := by
  revert k E; decide

/-- Selecting on the equality of two expert numbers. -/
theorem select_word (k E : Fin 16) (a b : EReal) :
    Scalar.select (IntOp.cmpi .eq (BitVec.ofNat 32 k.val) (BitVec.ofNat 32 E.val)) a b = if k = E then a else b := by
  rw [word_eq]
  by_cases h : k = E
  · rw [if_pos h, if_pos h]; rfl
  · rw [if_neg h, if_neg h]; rfl

/-- In row `a` of a chunk, where experts `k0` and `k1` are chosen, expert `E`'s gate column holds what `E` carries. -/
theorem column_apply (E : Fin 16) (x : Vec Ideal S256x512 .f32) (r : Vec Ideal S512x16 .f32) (i : Vec Ideal S256x2 .i32) (a : Fin 256) (k0 k1 : Fin 16)
    (h0 : i (ix2 a 0) = BitVec.ofNat 32 k0.val) (h1 : i (ix2 a 1) = BitVec.ofNat 32 k1.val) (s : Fin 16 → EReal)
    (hs : scores (fun d => x (ix2 a d)) r = s) (real : ∀ e, ∃ t : ℝ, s e = t) :
    column (BitVec.ofNat 32 E.val) x r i (ix2 a 0) = carried (portion s k0 k0 k1) (portion s k1 k0 k1) k0 k1 E := by
  have hw : ∀ e, Ideal.div (Ideal.exp (s e - Finset.fold max (Ideal.ofBits .f32 0xFF800000#32) (fun k => s k) Finset.univ))
      (∑ e', Ideal.exp (s e' - Finset.fold max (Ideal.ofBits .f32 0xFF800000#32) (fun k => s k) Finset.univ)) = weight s e := fun _ => rfl
  have hs' : ∀ e, ∑ d, x (ix2 a d) * r (ix2 d e) = s e := fun e => congrFun hs e
  pointwise [column, k0_pay1]
  simp only [hs', hw, h0, h1, select_word, Finset.sum_ite_eq', Finset.mem_univ, if_true, portion_eq s real]
  rfl

end Cert.Ring
-- ==== Proof.Products.lean ====
/-
The partial products, read at one element: a device's four experts on one row of tokens, each weighted by its gate. The
kernel spells the product eight times; `product` is their one text. What a device receives, adds to and sends on is read
here as well.
-/
module

public import proofs.«01_k».proof.Proof.Gates

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## One text for the eight products -/

/-- The tokens `x` weighted by gate `e` of `w`. -/
abbrev weighted (e : ℕ) (h : S256x4.Slices ![0, e] S256x1) (x : FVec F S256x512 .f32) (w : FVec F S256x4 .f32) : FVec F S256x512 .bf16 :=
  truncf .bf16 (mulf (broadcastTo S256x512 (extractStridedSlice S256x1 ![0, e] w h) broadcasts_S256x1_S256x512) x) bitsLt_bf16_f32

/-- The tokens weighted by each of the four gates, side by side, times the four experts' matrices `v`, one under the other. -/
def product (v : FVec F S2048x512 .bf16) (x : Vec F S256x512 .f32) (w : Vec F S256x4 .f32) : FVec F S256x512 .f32 :=
  let y : FVec F S256x512 .f32 := shapeCast S256x512 x shapeCasts_S256x512_S256x512
  matmul dot_S256x2048_S2048x512_S256x512_1_0_0_1_n_n none
    (concatenate S256x2048 1 [⟨S256x512, weighted 0 slices_S256x4_o0_0_S256x1 y w⟩, ⟨S256x512, weighted 1 slices_S256x4_o0_1_S256x1 y w⟩,
      ⟨S256x512, weighted 2 slices_S256x4_o0_2_S256x1 y w⟩, ⟨S256x512, weighted 3 slices_S256x4_o0_3_S256x1 y w⟩] concatenates_S256x512_S256x512_S256x512_S256x512_S256x2048_d1)
    v (constant S256x512 .f32 0x00000000#32)

theorem part0_eq (A : Opnds F) (c : Dev nD) (j : Fin 4) : part0 A c j = product (k0_pay15 (es A c)) (xs A c j) (ws A c j) := by
  match j with
  | 0 | 1 | 2 | 3 => rfl

theorem part1_eq (A : Opnds F) (c : Dev nD) (j : Fin 4) : part1 A c j = product (k0_pay16 (es A c)) (xs A c j) (ws A c j) := by
  match j with
  | 0 | 1 | 2 | 3 => rfl

/-! ## A product at one element -/

theorem sum_blocks (f : Fin 2048 → EReal) : ∑ k, f k = ∑ e : Fin 4, ∑ d : Fin 512, f ⟨512 * e.val + d.val, by omega⟩ := by
  rw [← Fintype.sum_prod_type' (fun (e : Fin 4) (d : Fin 512) => f ⟨512 * e.val + d.val, by omega⟩)]
  refine (Equiv.sum_comp (finProdFinEquiv (m := 4) (n := 512)) f).symm.trans (Finset.sum_congr rfl fun p _ => congrArg f (Fin.ext ?_))
  show p.2.val + 512 * p.1.val = 512 * p.1.val + p.2.val
  omega

theorem product_apply (v : FVec Ideal S2048x512 .bf16) (x : Vec Ideal S256x512 .f32) (w : Vec Ideal S256x4 .f32) (a : Fin 256) (o : Fin 512) :
    product v x w (ix2 a o) = ∑ e : Fin 4, ∑ d : Fin 512, (w (ix2 a e) * x (ix2 a d)) * v (ix2 ⟨512 * e.val + d.val, by omega⟩ o) := by
  pointwise [product]
  refine (sum_blocks _).trans (Finset.sum_congr rfl fun e _ => Finset.sum_congr rfl fun d _ => ?_)
  have piece : ∀ (e' : Fin 4) (d' : Fin 512), 512 * e'.val + d'.val = 512 * e.val + d.val → w (ix2 a e') * x (ix2 a d') = w (ix2 a e) * x (ix2 a d) := by
    intro e' d' h
    obtain rfl : e' = e := Fin.ext (by omega)
    obtain rfl : d' = d := Fin.ext (by omega)
    rfl
  refine congrArg (· * v (ix2 ⟨512 * e.val + d.val, _⟩ o)) ?_
  by_cases h0 : 512 * e.val + d.val < 512
  · rw [dif_pos h0]; exact piece 0 ⟨_, h0⟩ (by simp)
  rw [dif_neg h0]
  by_cases h1 : 512 * e.val + d.val - 512 < 512
  · rw [dif_pos h1]; exact piece 1 ⟨_, h1⟩ (by simp; omega)
  rw [dif_neg h1]
  by_cases h2 : 512 * e.val + d.val - 512 - 512 < 512
  · rw [dif_pos h2]; exact piece 2 ⟨_, h2⟩ (by simp; omega)
  rw [dif_neg h2]
  exact piece 3 ⟨512 * e.val + d.val - 512 - 512 - 512, by omega⟩ (by simp; omega)

/-- Column `o` of half `h`. -/
abbrev half (h : Fin 2) (o : Fin 512) : Fin 1024 := ⟨512 * h.val + o.val, by omega⟩

/-- The device's four experts in one matrix, one half of its columns. -/
def experts (h : Fin 2) (E : Vec F S4x512x1024 .f32) : FVec F S2048x512 .bf16 :=
  match h with
  | 0 => k0_pay15 E
  | 1 => k0_pay16 E

theorem experts_apply (h : Fin 2) (E : Vec Ideal S4x512x1024 .f32) (e : Fin 4) (d : Fin 512) (o : Fin 512) :
    experts h E (ix2 ⟨512 * e.val + d.val, by omega⟩ o) = E (ix3 e d (half h o)) := by
  have row : ∀ (k : Fin 1024) (e' : Fin 4) (d' : Fin 512), e' = e → d' = d → k = half h o → E (ix3 e' d' k) = E (ix3 e d (half h o)) := by
    rintro k e' d' rfl rfl rfl; rfl
  match h with
  | 0 =>
    show k0_pay15 E _ = _
    pointwise [k0_pay15, k0_pay14]
    exact row _ _ _ (Fin.ext (by simp)) (Fin.ext (by simp)) (Fin.ext (by simp [half]))
  | 1 =>
    show k0_pay16 E _ = _
    pointwise [k0_pay16, k0_pay14]
    exact row _ _ _ (Fin.ext (by simp)) (Fin.ext (by simp)) (Fin.ext (by simp [half]))

/-- The partial product of chunk `j`, half `h`, as it is sent. -/
def part (A : Opnds F) (c : Dev nD) (j : Fin 4) (h : Fin 2) : Blk F :=
  truncf .bf16 (product (experts h (es A c)) (xs A c j) (ws A c j)) bitsLt_bf16_f32

theorem part_apply (A : Opnds Ideal) (c : Dev nD) (j : Fin 4) (h : Fin 2) (a : Fin 256) (o : Fin 512) :
    part A c j h (ix2 a o) = ∑ e : Fin 4, ∑ d : Fin 512, (ws A c j (ix2 a e) * xs A c j (ix2 a d)) * es A c (ix3 e d (half h o)) := by
  refine (product_apply (experts h (es A c)) (xs A c j) (ws A c j) a o).trans (Finset.sum_congr rfl fun e _ => Finset.sum_congr rfl fun d _ => ?_)
  rw [experts_apply]

/-! ## What travels -/

/-- A block stored in a slot of another shape and taken out again is the block. -/
theorem gather_cast {s : Shape} (h : S256x512.numel = s.numel) (v : S256x512.Idx → Elt F .bf16) (h' : S256x512.ShapeCasts s) : gather h (shapeCast s v h') = v := by
  funext i
  refine congrArg v ?_
  rw [Shape.reshapeEquiv_reshapeEquiv]
  exact Shape.reshapeEquiv_self _ i

theorem cast_spread {s : Shape} (h : S256x512.numel = s.numel) (w : Blk F) (h' : s.ShapeCasts S256x512) : shapeCast S256x512 (spread h w) h' = w := by
  funext i
  exact congrArg w (Equiv.symm_apply_apply (Shape.reshapeEquiv h) i)

/-- What a device makes of the sum it receives: its own partial product added. -/
def added (w p : Blk Ideal) : Blk Ideal := fun i => w i + p i

theorem sA0_eq (A : Opnds F) (c : Dev nD) : sA0 A c = part A c 0 0 := gather_cast _ _ _
theorem sB0_eq (A : Opnds F) (c : Dev nD) : sB0 A c = part A c 0 1 := gather_cast _ _ _

/-- One hop, in any of the kernel's spellings of it. -/
theorem hop {s : Shape} (h : S256x512.numel = s.numel) (w : Blk Ideal) (p : FVec Ideal S256x512 .f32) (hc : s.ShapeCasts S256x512) (hc' : S256x512.ShapeCasts s) :
    gather h (shapeCast s (truncf .bf16 (addf (extf .f32 (shapeCast S256x512 (spread h w) hc : FVec Ideal S256x512 .bf16) bitsLt_bf16_f32) p) bitsLt_bf16_f32) hc') = added w p := by
  rw [gather_cast, cast_spread]
  rfl

end Cert.Ring
-- ==== Proof.Total.lean ====
/-
What every device ends with, element by element: the sum over the four devices of their partial products is the two chosen
experts' products, each weighted by its share (`outAt_apply`). The sums travel round the ring in two directions, so each
finished block is a sum over the devices in the order in which they were met; addition does not mind.
-/
module

public import proofs.«01_k».proof.Proof.Products
public import proofs.«01_k».proof.Proof.Step

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The ring -/

theorem sum_left (f : Dev nD → EReal) (c : Dev nD) : f (lft (lft (lft c))) + f (lft (lft c)) + f (lft c) + f c = ∑ d, f d := by
  have hs : ∑ d, f d = f 0 + f 1 + f 2 + f 3 := Fin.sum_univ_four f
  rw [hs]
  match c with
  | 0 => show f 1 + f 2 + f 3 + f 0 = _; ac_rfl
  | 1 => show f 2 + f 3 + f 0 + f 1 = _; ac_rfl
  | 2 => show f 3 + f 0 + f 1 + f 2 = _; ac_rfl
  | 3 => show f 0 + f 1 + f 2 + f 3 = _; rfl

theorem sum_right (f : Dev nD → EReal) (c : Dev nD) : f (rgt (rgt (rgt c))) + f (rgt (rgt c)) + f (rgt c) + f c = ∑ d, f d := by
  have hs : ∑ d, f d = f 0 + f 1 + f 2 + f 3 := Fin.sum_univ_four f
  rw [hs]
  match c with
  | 0 => show f 3 + f 2 + f 1 + f 0 = _; ac_rfl
  | 1 => show f 0 + f 3 + f 2 + f 1 = _; ac_rfl
  | 2 => show f 1 + f 0 + f 3 + f 2 = _; ac_rfl
  | 3 => show f 2 + f 1 + f 0 + f 3 = _; ac_rfl

/-- The finished first halves: the devices met going left. -/
theorem oA_eq (A : Opnds Ideal) (c : Dev nD) :
    oA A c = added (added (added (part A (lft (lft (lft c))) 0 0) (part A (lft (lft c)) 3 0)) (part A (lft c) 2 0)) (part A c 1 0) := by
  have h1 : ∀ c, sA1 A c = added (part A (lft c) 0 0) (part A c 3 0) := fun c => by
    rw [← sA0_eq]; unfold sA1; rw [part0_eq]; exact hop n4 _ _ _ _
  have h2 : ∀ c, sA2 A c = added (sA1 A (lft c)) (part A c 2 0) := fun c => by
    unfold sA2; rw [part0_eq]; exact hop n4 _ _ _ _
  have h3 : oA A c = added (sA2 A (lft c)) (part A c 1 0) := by
    unfold oA; rw [part0_eq, show k0_pay75 (product (k0_pay15 (es A c)) (xs A c 1) (ws A c 1)) (spread n4 (sA2 A (orig 4 c))) = _ from rfl]
    refine (gather_cast n3 _ _).trans ?_
    unfold k0_pay74
    rw [cast_spread]
    rfl
  rw [h3, h2, h1]

theorem oB_eq (A : Opnds Ideal) (c : Dev nD) :
    oB A c = added (added (added (part A (rgt (rgt (rgt c))) 0 1) (part A (rgt (rgt c)) 1 1)) (part A (rgt c) 2 1)) (part A c 3 1) := by
  have h1 : ∀ c, sB1 A c = added (part A (rgt c) 0 1) (part A c 1 1) := fun c => by
    rw [← sB0_eq]; unfold sB1; rw [part1_eq]; exact hop n4 _ _ _ _
  have h2 : ∀ c, sB2 A c = added (sB1 A (rgt c)) (part A c 2 1) := fun c => by
    unfold sB2; rw [part1_eq]; exact hop n4 _ _ _ _
  have h3 : oB A c = added (sB2 A (rgt c)) (part A c 3 1) := by
    unfold oB; rw [part1_eq]
    refine (gather_cast n3 _ _).trans ?_
    unfold k0_pay77
    rw [cast_spread]
    rfl
  rw [h3, h2, h1]

/-- Which device finished the block that device `c` holds as chunk `j`, half `h`. -/
def owner (c : Dev nD) (j : Fin 4) (h : Fin 2) : Dev nD := ⟨(c.val + j.val + 3 + 2 * h.val) % 4, Nat.mod_lt _ (by decide)⟩

theorem own (A : Opnds Ideal) (c : Dev nD) : ob A c (1, 0) = oA A c ∧ ob A c (3, 1) = oB A c :=
  ⟨(gather_cast n3 (k0_pay76 (k0_pay74 (part0 A c 1) (spread n4 (sA2 A (orig 4 c))))) shapeCasts_S256x512_S1x256x512).symm,
   (gather_cast n3 (k0_pay79 (k0_pay77 (part1 A c 3) (spread n4 (sB2 A (orig 5 c))))) shapeCasts_S256x512_S1x256x512).symm⟩

/-- The blocks of the result are finished sums. -/
theorem ob_eq (A : Opnds Ideal) (c : Dev nD) (j : Fin 4) (h : Fin 2) : ob A c (j, h) = if h = 0 then oA A (owner c j h) else oB A (owner c j h) := by
  match j, h with
  | 1, 0 => exact (own A c).1.trans (congrArg (oA A) (by revert c; decide))
  | 3, 1 => exact (own A c).2.trans (congrArg (oB A) (by revert c; decide))
  | 0, 0 => exact (cast_spread n4 _ _).trans (congrArg (oA A) (by revert c; decide))
  | 2, 0 => exact (cast_spread n4 _ _).trans (congrArg (oA A) (by revert c; decide))
  | 2, 1 => exact (cast_spread n4 _ _).trans (congrArg (oB A) (by revert c; decide))
  | 0, 1 => exact (cast_spread n4 _ _).trans (congrArg (oB A) (by revert c; decide))
  | 3, 0 => exact (cast_spread n3 _ _).trans (congrArg (oA A) (by revert c; decide))
  | 1, 1 => exact (cast_spread n3 _ _).trans (congrArg (oB A) (by revert c; decide))

/-! ## What a partial product adds to one token -/

/-- The token in row `a` of the chunk that device `c` calls `j`. -/
def token (c : Dev nD) (j : Fin 4) (a : Fin 256) : Fin 1024 := ⟨row0 c j + a.val, by have := Nat.mod_lt (c.val + j.val) (show 0 < 4 by decide); unfold row0; omega⟩

/-- Device `c`'s local expert `e` in the numbering of all sixteen. -/
def expert (c : Dev nD) (e : Fin 4) : Fin 16 := ⟨4 * c.val + e.val, by have := c.isLt; change c.val < 4 at this; omega⟩

theorem xs_apply (A : Opnds F) (c : Dev nD) (j : Fin 4) (a : Fin 256) (d : Fin 512) : xs A c j (ix2 a d) = A.x c (ix2 (token c j a) d) := by
  refine congrArg (A.x c) (funext fun k => Fin.ext ?_)
  match k with
  | ⟨0, _⟩ => show row0 c j + 1 * a.val = row0 c j + a.val; omega
  | ⟨1, _⟩ => show 0 + 1 * d.val = d.val; omega
theorem is_apply (A : Opnds F) (c : Dev nD) (j : Fin 4) (a : Fin 256) (k : Fin 2) : is A c j (ix2 a k) = A.i c (ix2 (token c j a) k) := by
  refine congrArg (A.i c) (funext fun l => Fin.ext ?_)
  match l with
  | ⟨0, _⟩ => show row0 c j + 1 * a.val = row0 c j + a.val; omega
  | ⟨1, _⟩ => show 0 + 1 * k.val = k.val; omega
theorem rs_apply (A : Opnds F) (c : Dev nD) (d : Fin 512) (e : Fin 16) : rs A c (ix2 d e) = A.r c (ix2 d e) := by
  refine congrArg (A.r c) (funext fun l => Fin.ext ?_)
  match l with
  | ⟨0, _⟩ => show 0 + 1 * d.val = d.val; omega
  | ⟨1, _⟩ => show 0 + 1 * e.val = e.val; omega
theorem es_apply (A : Opnds F) (c : Dev nD) (e : Fin 4) (d : Fin 512) (o : Fin 1024) : es A c (ix3 e d o) = A.e c (ix3 e d o) := by
  refine congrArg (A.e c) (funext fun l => Fin.ext ?_)
  match l with
  | ⟨0, _⟩ => show 0 + 1 * e.val = e.val; omega
  | ⟨1, _⟩ => show 0 + 1 * d.val = d.val; omega
  | ⟨2, _⟩ => show 0 + 1 * o.val = o.val; omega

/-- The number of a device's local expert, as the kernel computes it. -/
theorem expert_word (c : Dev nD) (e : Fin 4) : Scalar.addi (Scalar.muli (me c) 4#32) (BitVec.ofNat 32 e.val) = BitVec.ofNat 32 (expert c e).val := by
  revert c e; decide

/-- The operands, the same on every device but for the experts, of which each device has four: what the mesh holds of the
    tokens `X`, the router weights `R`, the choices `K` and the experts' weights `W`. -/
structure Holds (A : Opnds Ideal) (X : Fin 1024 → Fin 512 → EReal) (R : Fin 512 → Fin 16 → EReal) (K : Fin 1024 → Fin 2 → Fin 16)
    (W : Fin 16 → Fin 512 → Fin 1024 → EReal) : Prop where
  x : ∀ c n d, A.x c (ix2 n d) = X n d
  r : ∀ c d e, A.r c (ix2 d e) = R d e
  i : ∀ c n k, A.i c (ix2 n k) = BitVec.ofNat 32 (K n k).val
  e : ∀ c e d o, A.e c (ix3 e d o) = W (expert c e) d o
  realX : ∀ n d, ∃ t : ℝ, X n d = t
  realR : ∀ d e, ∃ t : ℝ, R d e = t

section
variable {A : Opnds Ideal} {X : Fin 1024 → Fin 512 → EReal} {R : Fin 512 → Fin 16 → EReal} {K : Fin 1024 → Fin 2 → Fin 16}
  {W : Fin 16 → Fin 512 → Fin 1024 → EReal}

/-- A token's scores. -/
def score (X : Fin 1024 → Fin 512 → EReal) (R : Fin 512 → Fin 16 → EReal) (n : Fin 1024) (e : Fin 16) : EReal := ∑ d, X n d * R d e

/-- What a token's expert `E` contributes to output column `o`. -/
def bit (X : Fin 1024 → Fin 512 → EReal) (R : Fin 512 → Fin 16 → EReal) (K : Fin 1024 → Fin 2 → Fin 16) (W : Fin 16 → Fin 512 → Fin 1024 → EReal)
    (n o : Fin 1024) (E : Fin 16) : EReal :=
  ∑ d, (carried (portion (score X R n) (K n 0) (K n 0) (K n 1)) (portion (score X R n) (K n 1) (K n 0) (K n 1)) (K n 0) (K n 1) E * X n d) * W E d o

/-- What the layer makes of a token. -/
def value (X : Fin 1024 → Fin 512 → EReal) (R : Fin 512 → Fin 16 → EReal) (K : Fin 1024 → Fin 2 → Fin 16) (W : Fin 16 → Fin 512 → Fin 1024 → EReal)
    (n o : Fin 1024) : EReal :=
  portion (score X R n) (K n 0) (K n 0) (K n 1) * (∑ d, X n d * W (K n 0) d o) + portion (score X R n) (K n 1) (K n 0) (K n 1) * ∑ d, X n d * W (K n 1) d o

theorem score_real (H : Holds A X R K W) (n : Fin 1024) (e : Fin 16) : ∃ t : ℝ, score X R n e = t :=
  real_sum _ _ fun d => by
    obtain ⟨p, hp⟩ := H.realX n d
    obtain ⟨q, hq⟩ := H.realR d e
    exact ⟨p * q, by rw [hp, hq, EReal.coe_mul]⟩

theorem ws_apply (H : Holds A X R K W) (c : Dev nD) (j : Fin 4) (a : Fin 256) (e : Fin 4) :
    ws A c j (ix2 a e) = carried (portion (score X R (token c j a)) (K (token c j a) 0) (K (token c j a) 0) (K (token c j a) 1))
      (portion (score X R (token c j a)) (K (token c j a) 1) (K (token c j a) 0) (K (token c j a) 1)) (K (token c j a) 0) (K (token c j a) 1) (expert c e) := by
  show gateCol j (me c) (xs A c j) (rs A c) (is A c j) e (ix2 a 0) = _
  rw [gateCol_eq, expert_word]
  exact column_apply _ _ _ _ _ _ _ ((is_apply A c j a 0).trans (H.i c _ 0)) ((is_apply A c j a 1).trans (H.i c _ 1)) _
    (funext fun e => Finset.sum_congr rfl fun d _ => congrArg₂ (· * ·) ((xs_apply A c j a d).trans (H.x c _ d)) ((rs_apply A c d e).trans (H.r c d e))) (score_real H _)

/-- A partial product, at one token and one column: the contributions of the device's own experts. -/
theorem part_bit (H : Holds A X R K W) (c : Dev nD) (j : Fin 4) (h : Fin 2) (a : Fin 256) (o : Fin 512) :
    part A c j h (ix2 a o) = ∑ e, bit X R K W (token c j a) (half h o) (expert c e) := by
  rw [part_apply]
  exact Finset.sum_congr rfl fun e _ => Finset.sum_congr rfl fun d _ => by rw [ws_apply H, xs_apply, es_apply, H.x, H.e]

/-- All devices' experts are all sixteen. -/
theorem sum_experts (f : Fin 16 → EReal) : ∑ c : Dev nD, ∑ e, f (expert c e) = ∑ E, f E := by
  rw [← Fintype.sum_prod_type']
  refine Fintype.sum_equiv ⟨fun p => expert p.1 p.2, fun E => (⟨E.val / 4, (show E.val / 4 < 4 by omega)⟩, ⟨E.val % 4, Nat.mod_lt _ (by decide)⟩), ?_, ?_⟩ _ _ fun _ => rfl
  · rintro ⟨c, e⟩
    refine Prod.ext (Fin.ext ?_) (Fin.ext ?_)
    · show (4 * c.val + e.val) / 4 = c.val; omega
    · show (4 * c.val + e.val) % 4 = e.val; omega
  · intro E
    refine Fin.ext ?_
    show 4 * (E.val / 4) + E.val % 4 = E.val; omega

theorem sum_value (H : Holds A X R K W) (n o : Fin 1024) : ∑ c : Dev nD, ∑ e, bit X R K W n o (expert c e) = value X R K W n o := by
  rw [sum_experts]
  exact routed _ _ (portion_real _ (score_real H n) _ _ _) (portion_real _ (score_real H n) _ _ _) _ _ _ fun E d => W E d o

/-- The token does not depend on which device is asked. -/
theorem token_eq {c c' : Dev nD} {j j' : Fin 4} (h : (c.val + j.val) % 4 = (c'.val + j'.val) % 4) (a : Fin 256) : token c j a = token c' j' a :=
  Fin.ext (by show row0 c j + a.val = row0 c' j' + a.val; unfold row0; rw [h])

theorem oA_apply (H : Holds A X R K W) (c : Dev nD) (a : Fin 256) (o : Fin 512) : oA A c (ix2 a o) = value X R K W (token c 1 a) (half 0 o) := by
  have h : ∀ (c' : Dev nD) (j : Fin 4), token c' j a = token c 1 a → part A c' j 0 (ix2 a o) = ∑ e, bit X R K W (token c 1 a) (half 0 o) (expert c' e) :=
    fun c' j e => by rw [part_bit H, e]
  rw [oA_eq, ← sum_value H, ← sum_left _ c]
  show part A _ 0 0 (ix2 a o) + part A _ 3 0 (ix2 a o) + part A _ 2 0 (ix2 a o) + part A _ 1 0 (ix2 a o) = _
  rw [h _ 0 (token_eq (by clear h; revert c; decide) a), h _ 3 (token_eq (by clear h; revert c; decide) a), h _ 2 (token_eq (by clear h; revert c; decide) a), h c 1 rfl]

theorem oB_apply (H : Holds A X R K W) (c : Dev nD) (a : Fin 256) (o : Fin 512) : oB A c (ix2 a o) = value X R K W (token c 3 a) (half 1 o) := by
  have h : ∀ (c' : Dev nD) (j : Fin 4), token c' j a = token c 3 a → part A c' j 1 (ix2 a o) = ∑ e, bit X R K W (token c 3 a) (half 1 o) (expert c' e) :=
    fun c' j e => by rw [part_bit H, e]
  rw [oB_eq, ← sum_value H, ← sum_right _ c]
  show part A _ 0 1 (ix2 a o) + part A _ 1 1 (ix2 a o) + part A _ 2 1 (ix2 a o) + part A _ 3 1 (ix2 a o) = _
  rw [h _ 0 (token_eq (by clear h; revert c; decide) a), h _ 1 (token_eq (by clear h; revert c; decide) a), h _ 2 (token_eq (by clear h; revert c; decide) a), h c 3 rfl]

theorem ob_apply (H : Holds A X R K W) (c : Dev nD) (j : Fin 4) (h : Fin 2) (a : Fin 256) (o : Fin 512) :
    ob A c (j, h) (ix2 a o) = value X R K W (token c j a) (half h o) := by
  rw [ob_eq]
  match h with
  | 0 => exact (oA_apply H _ a o).trans (by rw [token_eq (c' := c) (j' := j) (by revert c j; decide)])
  | 1 => exact (oB_apply H _ a o).trans (by rw [token_eq (c' := c) (j' := j) (by revert c j; decide)])

/-- Every device ends with the layer's value for every token and every column. -/
theorem outAt_apply (H : Holds A X R K W) (c : Dev nD) (n o : Fin 1024) : outAt A c (ix2 n o) = value X R K W n o := by
  have hn : token c (chunkOf c n) ⟨n.val % 256, Nat.mod_lt _ (by decide)⟩ = n := Fin.ext (row_chunk c n)
  have ho : half (halfOf o) ⟨o.val % 512, Nat.mod_lt _ (by decide)⟩ = o := Fin.ext (by show 512 * (o.val / 512) + o.val % 512 = o.val; omega)
  refine (ob_apply H c (chunkOf c n) (halfOf o) ⟨n.val % 256, Nat.mod_lt _ (by decide)⟩ ⟨o.val % 512, Nat.mod_lt _ (by decide)⟩).trans ?_
  rw [hn, ho]

end

end Cert.Ring
-- ==== Proof.Output.lean ====
/-
What each device holds at the start and at the end, read at an index: the operands' windows and the result's are whole
arrays (`final_result`), and under the precondition the arrays hold tokens and router weights that are real numbers and
choices that name experts (`mesh_holds`).
-/
module

public import proofs.«01_k».proof.Defs
public import proofs.«01_k».proof.Proof.Total
public import proofs.«01_k».proof.Proof.Launch

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The windows are the arrays -/

theorem whole_x (f : Vec F S1024x512 .f32) : (win0_0.blk (0 : Fin 1)).view.read (Elt F) f = f :=
  funext fun i => congrArg f (funext fun a => Fin.ext (by
    match a with
    | ⟨0, _⟩ => exact (Nat.zero_add _).trans (Nat.one_mul _)
    | ⟨1, _⟩ => exact (Nat.zero_add _).trans (Nat.one_mul _)))
theorem whole_r (f : Vec F S512x16 .f32) : (win0_1.blk (0 : Fin 1)).view.read (Elt F) f = f :=
  funext fun i => congrArg f (funext fun a => Fin.ext (by
    match a with
    | ⟨0, _⟩ => exact (Nat.zero_add _).trans (Nat.one_mul _)
    | ⟨1, _⟩ => exact (Nat.zero_add _).trans (Nat.one_mul _)))
theorem whole_i (f : Vec F S1024x2 .i32) : (win0_2.blk (0 : Fin 1)).view.read (Elt F) f = f :=
  funext fun i => congrArg f (funext fun a => Fin.ext (by
    match a with
    | ⟨0, _⟩ => exact (Nat.zero_add _).trans (Nat.one_mul _)
    | ⟨1, _⟩ => exact (Nat.zero_add _).trans (Nat.one_mul _)))
theorem whole_e (f : Vec F S4x512x1024 .f32) : (win0_3.blk (0 : Fin 1)).view.read (Elt F) f = f :=
  funext fun i => congrArg f (funext fun a => Fin.ext (by
    match a with
    | ⟨0, _⟩ => exact (Nat.zero_add _).trans (Nat.one_mul _)
    | ⟨1, _⟩ => exact (Nat.zero_add _).trans (Nat.one_mul _)
    | ⟨2, _⟩ => exact (Nat.zero_add _).trans (Nat.one_mul _)))
theorem whole_y (f : Vec F S1024x1024 .bf16) : (win0_4.blk (0 : Fin 1)).view.read (Elt F) f = f :=
  funext fun i => congrArg f (funext fun a => Fin.ext (by
    match a with
    | ⟨0, _⟩ => exact (Nat.zero_add _).trans (Nat.one_mul _)
    | ⟨1, _⟩ => exact (Nat.zero_add _).trans (Nat.one_mul _)))

/-- The result's array after the run holds what the body left in its staging buffer. -/
theorem final_result (c : Dev nD) : final m ρ c (4 : Fin 5) = outAt (𝒜 m ρ) c := by
  refine (whole_y _).symm.trans ?_
  unfold final
  rw [show cfg0.N = ((0 : Fin 1) : Fin cfg0.N).val + 1 from rfl, (dats m ρ 0 c).arrAt_succ (4 : Fin 5) (0 : Fin 1),
    show (cfg0.win (4 : Fin 5)).flush (0 : Fin 1) = true from by decide, if_pos rfl]
  exact View.read_write_univ _ _

/-! ## The precondition -/

theorem preFacts : Cert.Pre_routed_KernelIdeal.Facts :=
  ⟨by decide, by decide, by decide, by decide, by decide, by decide, by decide, by decide, by decide, by decide, by decide⟩

attribute [local instance] preFacts

/-- A bit that is an "and" is set when both are. -/
theorem both (a b : BitVec 1) (h : IntOp.andi a b = 1#1) : a = 1#1 ∧ b = 1#1 := by revert a b; decide

theorem top : Ideal.ofBits .f32 0x7F800000#32 = ⊤ := by
  simp [Ideal.ofBits, Ideal.ieee]

/-- A number smaller in size than infinity is real. -/
theorem real_of (a : EReal) (h : BitVec.ofBool (decide ((FloatOps.absf (F := Ideal) (φ := .f32) a : EReal) < Ideal.ofBits .f32 0x7F800000#32)) = 1#1) : ∃ t : ℝ, a = t := by
  have hlt : max a (-a) < ⊤ := by
    by_contra hn
    have hd : decide ((FloatOps.absf (F := Ideal) (φ := .f32) a : EReal) < Ideal.ofBits .f32 0x7F800000#32) = false := decide_eq_false (by rw [top]; exact hn)
    rw [hd] at h
    exact absurd h (by decide)
  induction a with
  | bot => exact absurd hlt (by simp)
  | top => exact absurd hlt (by simp)
  | coe t => exact ⟨t, rfl⟩

/-- A word between 0 and 16 names an expert. -/
theorem named_of (v : BitVec 32) (h : IntOp.andi (IntOp.cmpi .sge v 0#32) (IntOp.cmpi .slt v 16#32) = 1#1) : v.toNat < 16 := by
  have p : ∀ b : Bool, BitVec.ofBool b = 1#1 → b = true := by decide
  obtain ⟨h0, h1⟩ := both _ _ h
  have h0 := p _ h0
  have h1 := p _ h1
  simp only [BitVec.sle_eq_decide, BitVec.slt_eq_decide, decide_eq_true_eq, BitVec.toInt_eq_toNat_cond, BitVec.toNat_ofNat, Nat.reducePow, Nat.reduceMod] at h0 h1
  omega

/-- The precondition at one token, one feature and one expert. -/
theorem pre_apply (x : FVec Ideal S1024x512 .f32) (r : FVec Ideal S512x16 .f32) (i : IVec S1024x2 32) (w : FVec Ideal S4x512x1024 .f32)
    (h : Cert.Pre_routed_KernelIdeal.fn (F := Ideal) x r i w = fun _ => 1#1) (n : Fin 1024) (d : Fin 512) (e : Fin 16) :
    (∃ t : ℝ, x (ix2 n d) = t) ∧ (∃ t : ℝ, r (ix2 d e) = t) ∧ (i (ix2 n 0)).toNat < 16 ∧ (i (ix2 n 1)).toNat < 16 := by
  have h : Cert.Pre_routed_KernelIdeal.fn (F := Ideal) x r i w (ix3 n d e) = 1#1 := congrFun h _
  pointwise [Cert.Pre_routed_KernelIdeal.fn, Cert.Pre_routed_KernelIdeal.fn_part1] at h
  obtain ⟨h, h1⟩ := both _ _ h
  obtain ⟨h, h0⟩ := both _ _ h
  obtain ⟨hx, hr⟩ := both _ _ h
  exact ⟨real_of _ hx, real_of _ hr, named_of _ h0, named_of _ h1⟩

/-! ## What the mesh holds -/

/-- The expert that a choice names. -/
def choiceOf (i : IVec S1024x2 32) (n : Fin 1024) (k : Fin 2) : Fin 16 := ⟨(i (ix2 n k)).toNat % 16, Nat.mod_lt _ (by decide)⟩

theorem choice_word (i : IVec S1024x2 32) (n : Fin 1024) (k : Fin 2) (h : (i (ix2 n k)).toNat < 16) : i (ix2 n k) = BitVec.ofNat 32 (choiceOf i n k).val := by
  unfold choiceOf
  apply BitVec.eq_of_toNat_eq
  rw [BitVec.toNat_ofNat]
  show (i (ix2 n k)).toNat = (i (ix2 n k)).toNat % 16 % 2 ^ 32
  omega

/-- A device's block of the experts' weights is its own four experts. -/
theorem block_expert (W : Vec Ideal ⟨3, ![16, 512, 1024]⟩ .f32) (c : Fin 4) (e : Fin 4) (d : Fin 512) (o : Fin 1024) :
    (Layout.block ⟨3, ![4, 512, 1024]⟩ ⟨3, ![16, 512, 1024]⟩ 0 4 c W : S4x512x1024.Idx → EReal) (ix3 e d o) = W (ix3 (expert c e) d o) := by
  refine congrArg W (funext fun a => Fin.ext ?_)
  match a with
  | ⟨0, _⟩ => show c.val * 4 + e.val = 4 * c.val + e.val; omega
  | ⟨1, _⟩ => rfl
  | ⟨2, _⟩ => rfl

theorem mesh_holds (m : (ℓ : Loc nD τ sig) → Buf (Elt Ideal) ℓ) (x : FVec Ideal S1024x512 .f32) (r : FVec Ideal S512x16 .f32) (i : IVec S1024x2 32)
    (W : Vec Ideal ⟨3, ![16, 512, 1024]⟩ .f32)
    (hx : ∀ c : Dev nD, m ((c : Thread nD τ).loc main_arg0) = x) (hr : ∀ c : Dev nD, m ((c : Thread nD τ).loc main_arg1) = r)
    (hi : ∀ c : Dev nD, m ((c : Thread nD τ).loc main_arg2) = i)
    (he : ∀ c : Dev nD, m ((c : Thread nD τ).loc main_arg3) = Layout.block ⟨3, ![4, 512, 1024]⟩ ⟨3, ![16, 512, 1024]⟩ 0 4 c W)
    (hpre : Cert.Pre_KernelIdeal_routed_KernelIdeal m) :
    Holds (opnds m ρ) (fun n d => x (ix2 n d)) (fun d e => r (ix2 d e)) (choiceOf i) (fun e d o => W (ix3 e d o)) := by
  have pre := fun n d e => pre_apply x r i _ (by have h := hpre 0; rw [← hx 0, ← hr 0, ← hi 0]; exact h) n d e
  exact
  { x := fun c n d => congrFun ((whole_x _).trans (hx c)) (ix2 n d)
    r := fun c d e => congrFun ((whole_r _).trans (hr c)) (ix2 d e)
    i := fun c n k => (congrFun ((whole_i (F := Ideal) _).trans (hi c)) (ix2 n k)).trans (choice_word i n k (by
      match k with
      | 0 => exact (pre n 0 0).2.2.1
      | 1 => exact (pre n 0 0).2.2.2))
    e := fun c e d o => (congrFun ((whole_e _).trans (he c)) (ix3 e d o)).trans (block_expert W c e d o)
    realX := fun n d => (pre n d 0).1
    realR := fun d e => (pre 0 d e).2.1 }

end Cert.Ring
-- ==== Proof.RefValue.lean ====
/-
The reference's result, element by element: each token's two chosen experts' products, weighted by their shares of the
softmaxed scores (`res_apply`).
-/
module

public import proofs.«01_k».proof.Proof.Gen.ReferenceIdeal.Run
public import proofs.«01_k».proof.Proof.Total
public import Idealize.ShloMosaic.Lib.Pointwise

@[expose] public section

noncomputable section

namespace Cert.Ring.Ref

open Cert.ReferenceIdeal Cert.ReferenceIdeal.Gen

open Idealize.ShloMosaic
open Idealize.ShloMosaic.TcCoe

/-! ## Taking along the expert axis -/

/-- A word naming an expert, read signed and kept within the sixteen, is that expert. -/
theorem named_word (e : Fin 16) : min (BitVec.ofNat 32 e.val).toInt.toNat 15 = e.val := by revert e; decide

/-- How the two weights are taken, and how a product is. -/
abbrev dW : GatherDims S1024x16 S1024x2x1 S1024x2 := gather_S1024x16_S1024x2x1_S1024x2_n_1_0_0_1_2_11
abbrev dP : GatherDims S1024x16x1024 S1024x1x1 S1024x1x1024 := gather_S1024x16x1024_S1024x1x1_S1024x1x1024_2_1_0_0_1_2_111024

/-- Taking two of a token's sixteen weights. -/
theorem take_weight {α : Type} (x : S1024x16.Idx → α) (idx : IVec S1024x2x1 32) (n : Fin 1024) (k : Fin 2) (e : Fin 16)
    (h : idx (ix3 n k 0) = BitVec.ofNat 32 e.val) : Host.gather dW x idx (ix2 n k) = x (ix2 n e) := by
  have token : (0 : Fin 2) ∈ dW.operandBatchingDims := List.mem_singleton.mpr rfl
  have named : (1 : Fin 2) ∈ dW.startIndexMap := List.mem_singleton.mpr rfl
  have named' : (1 : Fin 2) ∈ dW.collapsedSliceDims := List.mem_singleton.mpr rfl
  have apart : (1 : Fin 2) ∉ dW.operandBatchingDims := fun h => absurd (List.mem_singleton.mp h) (by decide)
  refine congrArg x (funext fun a => Fin.ext ?_)
  show dW.start (ix2 n k) idx a + dW.batchCoord (ix2 n k) a + dW.offCoord (ix2 n k) a = _
  have ha : a = 0 ∨ a = 1 := by
    match a with
    | ⟨0, _⟩ => exact Or.inl rfl
    | ⟨1, _⟩ => exact Or.inr rfl
  rcases ha with rfl | rfl
  · rw [dW.start_batching _ _ _ token, dW.offCoord_eq_zero _ _ (fun h => ((dW.mem_sKept _).mp h).2 token), Nat.zero_add, Nat.add_zero]
    unfold GatherDims.batchCoord
    rw [dif_pos token]
    rfl
  · rw [dW.batchCoord_eq_zero _ _ apart, dW.offCoord_eq_zero _ _ (fun h => ((dW.mem_sKept _).mp h).1 named'), Nat.add_zero]
    unfold GatherDims.start
    rw [dif_pos named]
    refine Eq.trans ?_ (named_word e)
    rw [← h]
    refine congrArg (fun i => min (idx i).toInt.toNat 15) (funext fun b => Fin.ext ?_)
    match b with
    | ⟨0, _⟩ => rfl
    | ⟨1, _⟩ => rfl
    | ⟨2, _⟩ => rfl

/-- Taking one of a token's sixteen products. -/
theorem take_product {α : Type} (x : S1024x16x1024.Idx → α) (idx : IVec S1024x1x1 32) (n : Fin 1024) (o : Fin 1024) (e : Fin 16)
    (h : idx (ix3 n 0 0) = BitVec.ofNat 32 e.val) : Host.gather dP x idx (ix3 n 0 o) = x (ix3 n e o) := by
  have token : (0 : Fin 3) ∈ dP.operandBatchingDims := List.mem_singleton.mpr rfl
  have named : (1 : Fin 3) ∈ dP.startIndexMap := List.mem_singleton.mpr rfl
  have named' : (1 : Fin 3) ∈ dP.collapsedSliceDims := List.mem_singleton.mpr rfl
  have apart : ∀ a : Fin 3, a ≠ 0 → a ∉ dP.operandBatchingDims := fun a ha h => ha (List.mem_singleton.mp h)
  have apart' : (2 : Fin 3) ∉ dP.collapsedSliceDims := fun h => absurd (List.mem_singleton.mp h) (by decide)
  have apart'' : (2 : Fin 3) ∉ dP.startIndexMap := fun h => absurd (List.mem_singleton.mp h) (by decide)
  refine congrArg x (funext fun a => Fin.ext ?_)
  show dP.start (ix3 n 0 o) idx a + dP.batchCoord (ix3 n 0 o) a + dP.offCoord (ix3 n 0 o) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [dP.start_batching _ _ _ token, dP.offCoord_eq_zero _ _ (fun h => ((dP.mem_sKept _).mp h).2 token), Nat.zero_add, Nat.add_zero]
    unfold GatherDims.batchCoord
    rw [dif_pos token]
    rfl
  · rw [dP.batchCoord_eq_zero _ _ (apart 1 (by decide)), dP.offCoord_eq_zero _ _ (fun h => ((dP.mem_sKept _).mp h).1 named'), Nat.add_zero]
    unfold GatherDims.start
    rw [dif_pos named]
    refine Eq.trans ?_ (named_word e)
    rw [← h]
    refine congrArg (fun i => min (idx i).toInt.toNat 15) (funext fun b => Fin.ext ?_)
    match b with
    | ⟨0, _⟩ => rfl
    | ⟨1, _⟩ => rfl
    | ⟨2, _⟩ => rfl
  · rw [dP.batchCoord_eq_zero _ _ (apart 2 (by decide)), Nat.add_zero]
    unfold GatherDims.start GatherDims.offCoord
    rw [dif_neg apart'', dif_pos ((dP.mem_sKept _).mpr ⟨apart', apart 2 (by decide)⟩), Nat.zero_add]
    rfl

/-- A word naming an expert is not negative, so the reference leaves it as it is. -/
theorem unwrapped (e : Fin 16) : Scalar.select (IntOp.cmpi .slt (BitVec.ofNat 32 e.val) 0#32) (IntOp.addi (BitVec.ofNat 32 e.val) 16#32) (BitVec.ofNat 32 e.val) = BitVec.ofNat 32 e.val := by
  revert e; decide

/-! ## The result -/

section
variable (x : FVec Ideal S1024x512 .f32) (r : FVec Ideal S512x16 .f32) (i : IVec S1024x2 32) (w : FVec Ideal S16x512x1024 .f32)

/-- The softmaxed scores. -/
def soft : FVec Ideal S1024x16 .f32 :=
  let s : FVec Ideal S1024x16 .f32 := Host.dotGeneral dot_S1024x512_S512x16_S1024x16_1_0_0_1_n_n none x r
  let top : FVec Ideal S1024 .f32 := Host.reduce FloatOps.maximumf s (constant S_ .f32 0xFF800000#32) reducesTo_S1024x16_S1024_d1 h_S_
  let t : FVec Ideal S1024x16 .f32 := Host.exp (subf s (broadcastInDim S1024x16 ![0, 1] bcast_S1024x1_S1024x16_0_1 (broadcastInDim S1024x1 ![0] bcast_S1024_S1024x1_0 top)))
  let all : FVec Ideal S1024 .f32 := Host.reduceAdd t (constant S_ .f32 0x00000000#32) reducesTo_S1024x16_S1024_d1 h_S_
  Host.divf t (broadcastInDim S1024x16 ![0, 1] bcast_S1024x1_S1024x16_0_1 (broadcastInDim S1024x1 ![0] bcast_S1024_S1024x1_0 all))

/-- The choices as the weights are taken by them. -/
def choices : IVec S1024x2x1 32 :=
  shapeCast S1024x2x1 (select (cmpi .slt i (broadcastInDim S1024x2 ![] bcast_S_S1024x2 (constantI S_ 32 0#32)))
    (addi i (broadcastInDim S1024x2 ![] bcast_S_S1024x2 (constantI S_ 32 16#32))) i) shapeCasts_S1024x2_S1024x2x1

/-- One column of the choices as the products are taken by it. -/
def choice (q : IVec S1024x1 32) : IVec S1024x1x1 32 :=
  let q : IVec S1024x1x1 32 := broadcastInDim S1024x1x1 ![0, 1] bcast_S1024x1_S1024x1x1_0_1 q
  select (cmpi .slt q (broadcastInDim S1024x1x1 ![] bcast_S_S1024x1x1 (constantI S_ 32 0#32))) (addi q (broadcastInDim S1024x1x1 ![] bcast_S_S1024x1x1 (constantI S_ 32 16#32))) q

/-- Every token's product with every expert. -/
def products : FVec Ideal S1024x16x1024 .f32 := Host.dotGeneral dot_S1024x512_S16x512x1024_S1024x16x1024_1_1_0_02_n_n none x w

def first : FVec Ideal S1024x1024 .f32 := shapeCast S1024x1024 (Host.gather gather_S1024x16x1024_S1024x1x1_S1024x1x1024_2_1_0_0_1_2_111024 (products x w)
    (choice (extractStridedSlice S1024x1 ![0, 0] i slices_S1024x2_S1024x1_0_0))) shapeCasts_S1024x1x1024_S1024x1024
def second : FVec Ideal S1024x1024 .f32 := shapeCast S1024x1024 (Host.gather gather_S1024x16x1024_S1024x1x1_S1024x1x1024_2_1_0_0_1_2_111024 (products x w)
    (choice (extractStridedSlice S1024x1 ![0, 1] i slices_S1024x2_S1024x1_0_1))) shapeCasts_S1024x1x1024_S1024x1024

/-- The two weights. -/
def taken : FVec Ideal S1024x2 .f32 := Host.gather gather_S1024x16_S1024x2x1_S1024x2_n_1_0_0_1_2_11 (soft x r) (choices i)

def mixed (g : FVec Ideal S1024x2 .f32) (p q : FVec Ideal S1024x1024 .f32) : FVec Ideal S1024x1024 .bf16 :=
  let g0 : FVec Ideal S1024x1 .f32 := extractStridedSlice S1024x1 ![0, 0] g slices_S1024x2_S1024x1_0_0
  let g1 : FVec Ideal S1024x1 .f32 := extractStridedSlice S1024x1 ![0, 1] g slices_S1024x2_S1024x1_0_1
  truncf .bf16 (addf (mulf (broadcastInDim S1024x1024 ![0, 1] bcast_S1024x1_S1024x1024_0_1 (Host.divf g0 (addf g0 g1))) p)
    (mulf (broadcastInDim S1024x1024 ![0, 1] bcast_S1024x1_S1024x1024_0_1 (Host.divf g1 (addf g0 g1))) q)) bitsLt_bf16_f32

theorem choices_apply (n : Fin 1024) (k : Fin 2) (e : Fin 16) (h : i (ix2 n k) = BitVec.ofNat 32 e.val) : choices i (ix3 n k 0) = BitVec.ofNat 32 e.val := by
  pointwise [choices]
  rw [h]
  exact unwrapped e

theorem choice_apply (q : IVec S1024x1 32) (n : Fin 1024) (e : Fin 16) (h : q (ix2 n 0) = BitVec.ofNat 32 e.val) : choice q (ix3 n 0 0) = BitVec.ofNat 32 e.val := by
  pointwise [choice]
  rw [h]
  exact unwrapped e

theorem soft_apply (n : Fin 1024) (e : Fin 16) : soft x r (ix2 n e) = weight (fun e => ∑ d, x (ix2 n d) * r (ix2 d e)) e := by
  pointwise [soft]
  rfl

theorem products_apply (n o : Fin 1024) (e : Fin 16) : products x w (ix3 n e o) = ∑ d, x (ix2 n d) * w (ix3 e d o) := by
  pointwise [products]

theorem taken_apply (n : Fin 1024) (k : Fin 2) (e : Fin 16) (h : i (ix2 n k) = BitVec.ofNat 32 e.val) :
    taken x r i (ix2 n k) = weight (fun e => ∑ d, x (ix2 n d) * r (ix2 d e)) e :=
  (take_weight _ _ n k e (choices_apply i n k e h)).trans (soft_apply x r n e)

theorem first_apply (n o : Fin 1024) (e : Fin 16) (h : i (ix2 n 0) = BitVec.ofNat 32 e.val) : first x i w (ix2 n o) = ∑ d, x (ix2 n d) * w (ix3 e d o) := by
  pointwise [first]
  rw [take_product _ _ n o e (choice_apply _ n e (by pointwise []; exact h)), products_apply]

theorem second_apply (n o : Fin 1024) (e : Fin 16) (h : i (ix2 n 1) = BitVec.ofNat 32 e.val) : second x i w (ix2 n o) = ∑ d, x (ix2 n d) * w (ix3 e d o) := by
  pointwise [second]
  rw [take_product _ _ n o e (choice_apply _ n e (by pointwise []; exact h)), products_apply]

theorem mixed_apply (g : FVec Ideal S1024x2 .f32) (p q : FVec Ideal S1024x1024 .f32) (n o : Fin 1024) :
    mixed g p q (ix2 n o) = Ideal.div (g (ix2 n 0)) (g (ix2 n 0) + g (ix2 n 1)) * p (ix2 n o) + Ideal.div (g (ix2 n 1)) (g (ix2 n 0) + g (ix2 n 1)) * q (ix2 n o) := by
  pointwise [mixed]

end

variable (m : (ℓ : Loc nD τ sig) → Buf (Elt Ideal) ℓ) (c : Dev nD)

theorem res_eq : Value.res_main_v32 m c =
    mixed (taken (m ((c.tc : Thread nD τ).loc main_arg0)) (m ((c.tc : Thread nD τ).loc main_arg1)) (m ((c.tc : Thread nD τ).loc main_arg2)))
      (first (m ((c.tc : Thread nD τ).loc main_arg0)) (m ((c.tc : Thread nD τ).loc main_arg2)) (m ((c.tc : Thread nD τ).loc main_arg3)))
      (second (m ((c.tc : Thread nD τ).loc main_arg0)) (m ((c.tc : Thread nD τ).loc main_arg2)) (m ((c.tc : Thread nD τ).loc main_arg3))) := rfl

theorem res_apply (X : Fin 1024 → Fin 512 → EReal) (R : Fin 512 → Fin 16 → EReal) (K : Fin 1024 → Fin 2 → Fin 16) (W : Fin 16 → Fin 512 → Fin 1024 → EReal)
    (x : FVec Ideal S1024x512 .f32) (r : FVec Ideal S512x16 .f32) (i : IVec S1024x2 32) (w : FVec Ideal S16x512x1024 .f32)
    (hX : ∀ n d, x (ix2 n d) = X n d) (hR : ∀ d e, r (ix2 d e) = R d e) (hK : ∀ n k, i (ix2 n k) = BitVec.ofNat 32 (K n k).val)
    (hW : ∀ e d o, w (ix3 e d o) = W e d o) (n o : Fin 1024) :
    mixed (taken x r i) (first x i w) (second x i w) (ix2 n o) = value X R K W n o := by
  rw [mixed_apply, taken_apply x r i n 0 _ (hK n 0), taken_apply x r i n 1 _ (hK n 1), first_apply x i w n o _ (hK n 0), second_apply x i w n o _ (hK n 1)]
  simp only [hX, hR, hW]
  rfl

end Cert.Ring.Ref
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Output
public import proofs.«01_k».proof.Proof.RefValue
public import Idealize.ShloMosaic.Adequacy

@[expose] public section

namespace Cert.Proof

open Idealize.ShloMosaic Idealize.SL.Sem

attribute [local instance] Cert.Kernel.Gen.facts Cert.KernelIdeal.Gen.facts Cert.ReferenceIdeal.Gen.facts

/-- The four operands of the kernel keep what they held: `Ring.run_main` read at the operands' windows. -/
theorem kept {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c =>
    ⟨(h.1 c (0 : Fin 5)).trans (Ring.final_operand m g c 0 rfl), (h.1 c (1 : Fin 5)).trans (Ring.final_operand m g c 1 rfl),
      (h.1 c (2 : Fin 5)).trans (Ring.final_operand m g c 2 rfl), (h.1 c (3 : Fin 5)).trans (Ring.final_operand m g c 3 rfl)⟩, h.2⟩)
    (Ring.run_main m g)

/-- The two programs' body tables are one: each label runs the same text. -/
theorem tables {F : FTy → Type} [FloatOps F] :
    Cert.Kernel.defs₀ (F := F) = Cert.KernelIdeal.defs₀ (F := F) := by
  unfold Cert.Kernel.defs₀ Cert.KernelIdeal.defs₀
  refine congrArg Defs.onTc (funext fun l => ?_)
  rcases l with ⟨_ | _, h⟩
  · funext a
    rcases a with ⟨t, s⟩
    rfl
  · rfl

/-- The kernel as it is printed ends with its operands kept and every counter at zero: its text is the idealized
    kernel's, so the run over any float values is the run at the bit patterns. -/
theorem frame_kernel : Cert.quiescent_Kernel := by
  intro m g _
  have run := kept (F := Bits) m g
  unfold Cert.KernelIdeal.defs at run
  rw [← tables] at run
  exact run

/-- The idealized kernel ends with its operands kept and every counter at zero. -/
theorem frame_kernelIdeal : Cert.quiescent_KernelIdeal := fun m g _ => kept m g

/-- The reference, host operations in a straight line with no counter declared, keeps its arguments. -/
theorem frame_reference : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The precondition, stated of the reference's arguments, has its shapes in order. -/
theorem preReference : Cert.Pre_routed_ReferenceIdeal.Facts :=
  ⟨by decide, by decide, by decide, by decide, by decide, by decide, by decide, by decide, by decide, by decide, by decide⟩

attribute [local instance] Cert.Ring.preFacts preReference

/-- With real tokens and router weights and choices that name experts, every device ends with the whole of the reference's
    result: both are, at every token and column, the two chosen experts' products weighted by their shares. -/
theorem agree : Cert.algebraic_KernelIdeal_ReferenceIdeal_pre_routed_KernelIdeal := by
  intro m g m' g' hpre same
  refine ⟨Cert.ReferenceIdeal.Value.res_main_v32 m' 0, ?_, ?_⟩
  · refine (θ_run Cert.KernelIdeal.defs _ _).mono (fun r h c => ?_) (Ring.run_main (F := Ideal) m g)
    have H := Ring.mesh_holds g m _ _ _ _ (fun c => (same c).1) (fun c => (same c).2.1) (fun c => (same c).2.2.1) (fun c => (same c).2.2.2) hpre
    refine ⟨(h.1 c (4 : Fin 5)).trans ((Ring.final_result m g c).trans (funext fun i => ?_)),
      (h.1 c (0 : Fin 5)).trans (Ring.final_operand m g c 0 rfl), (h.1 c (1 : Fin 5)).trans (Ring.final_operand m g c 1 rfl),
      (h.1 c (2 : Fin 5)).trans (Ring.final_operand m g c 2 rfl), (h.1 c (3 : Fin 5)).trans (Ring.final_operand m g c 3 rfl)⟩
    rw [show i = ix2 (i 0) (i 1) from eq_ix2 i]
    refine (Ring.outAt_apply H c (i 0) (i 1)).trans ?_
    exact (Ring.Ref.res_apply _ _ _ _ _ _ _ _ (fun _ _ => rfl) (fun _ _ => rfl) (fun n k => (congrFun ((Ring.whole_i (F := Ideal) _).trans (same 0).2.2.1) _).symm.trans (H.i 0 n k)) (fun _ _ _ => rfl) (i 0) (i 1)).symm
  · exact (θ_run Cert.ReferenceIdeal.defs _ _).mono (fun r h => h 0) (Cert.ReferenceIdeal.Value.run (F := Ideal) m' g')

/-- The certificate's claims together. -/
theorem claim : Cert.Claim :=
  ⟨Cert.Kernel.Gen.facts, Cert.KernelIdeal.Gen.facts, Cert.ReferenceIdeal.Gen.facts, Cert.Ring.preFacts, preReference,
    frame_kernel, frame_kernelIdeal, fun m g _ => frame_kernelIdeal m g trivial, frame_reference, fun m g _ => frame_reference m g trivial, trivial, agree⟩

end Cert.Proof

end
